-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 2048]⟩ : Shape).Idx, (Layout.block ⟨2, ![64, 2048]⟩ ⟨2, ![2048, 2048]⟩ 0 32 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![64, 2048]⟩ : Shape).Idx → _) i = 1#1 → r.2.mem ((c.tc : Thread Cert.KernelIdeal.nD Cert.KernelIdeal.τ).loc Cert.KernelIdeal.main_v1) i = (Layout.block ⟨2, ![64, 2048]⟩ ⟨2, ![2048, 2048]⟩ 0 32 c v0 : (⟨2, ![64, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_within_clip (hKernelIdeal := hKernelIdeal) (hReferenceIdeal := hReferenceIdeal) (hOn_within_clip := hOn_within_clip)
    ∧ algebraic_KernelIdeal_SiluIdeal (hKernelIdeal := hKernelIdeal) (hSiluIdeal := hSiluIdeal)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S2048x64 : Shape := ⟨2, ![2048, 64]⟩
abbrev S2048x2048 : Shape := ⟨2, ![2048, 2048]⟩
abbrev S64x2048 : Shape := ⟨2, ![64, 2048]⟩
abbrev S32x64x64 : Shape := ⟨3, ![32, 64, 64]⟩
abbrev S32 : Shape := ⟨1, ![32]⟩
abbrev S_ : Shape := ⟨0, ![]⟩
abbrev S64x64 : Shape := ⟨2, ![64, 64]⟩
abbrev S1x64x64 : Shape := ⟨3, ![1, 64, 64]⟩
abbrev S1 : Shape := ⟨1, ![1]⟩
abbrev S64x32x64 : Shape := ⟨3, ![64, 32, 64]⟩

abbrev nBuf : Space → Nat
  | .hbm => 3
  | .vmem => 4
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S64x2048, .f32⟩
  | .local _ .vmem, ⟨0, _⟩ => ⟨S2048x64, .f32⟩
  | .local _ .vmem, ⟨1, _⟩ => ⟨S2048x2048, .f32⟩
  | .local _ .vmem, ⟨2, _⟩ => ⟨S64x2048, .f32⟩
  | .local _ .vmem, ⟨3, _⟩ => ⟨S32x64x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c64_i32 : BitVec 32 := 64#32
  let v128 : BitVec 32 := Scalar.muli v2 c64_i32
  let v129 : Index := Scalar.indexCast v128
  let c0 : Index := 0#32
  ![v129.toNat, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v132 : Index := Scalar.indexCast v2
  let c0_125 : Index := 0#32
  let c0_126 : Index := 0#32
  ![v132.toNat, 0, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_133 : BitVec 32 := 0#32
  let c0_i32_134 : BitVec 32 := 0#32
  ![v2.toNat, 0, 0]
def k0_off5 (d0 : Dev nD) (c1_i32_127 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : BitVec 32 := Scalar.addi v2 c1_i32_127
  let c32_i32_128 : BitVec 32 := 32#32
  let v137 : BitVec 32 := Scalar.remsi v136 c32_i32_128
  let c64_i32_129 : BitVec 32 := 64#32
  let v138 : BitVec 32 := Scalar.muli v137 c64_i32_129
  let c0_i32_135 : BitVec 32 := 0#32
  ![v138.toNat, 0]
def k0_dev32 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_127 : BitVec 32 := 1#32
  let v136 : BitVec 32 := Scalar.addi v2 c1_i32_127
  let c32_i32_128 : BitVec 32 := 32#32
  let v137 : BitVec 32 := Scalar.remsi v136 c32_i32_128
  let c1_i32_131 : BitVec 32 := 1#32
  let v139 : BitVec 32 := Scalar.muli v137 c1_i32_131
  let v140 : BitVec 32 := Scalar.addi c0_i32_132 v139
  v140.toNat
def k0_dev33 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_136 : BitVec 32 := 2#32
  let v148 : BitVec 32 := Scalar.addi v2 c2_i32_136
  let c32_i32_137 : BitVec 32 := 32#32
  let v149 : BitVec 32 := Scalar.remsi v148 c32_i32_137
  let c1_i32_140 : BitVec 32 := 1#32
  let v151 : BitVec 32 := Scalar.muli v149 c1_i32_140
  let v152 : BitVec 32 := Scalar.addi c0_i32_141 v151
  v152.toNat
def k0_dev34 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_145 : BitVec 32 := 3#32
  let v160 : BitVec 32 := Scalar.addi v2 c3_i32_145
  let c32_i32_146 : BitVec 32 := 32#32
  let v161 : BitVec 32 := Scalar.remsi v160 c32_i32_146
  let c1_i32_149 : BitVec 32 := 1#32
  let v163 : BitVec 32 := Scalar.muli v161 c1_i32_149
  let v164 : BitVec 32 := Scalar.addi c0_i32_150 v163
  v164.toNat
def k0_dev35 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_154 : BitVec 32 := 4#32
  let v172 : BitVec 32 := Scalar.addi v2 c4_i32_154
  let c32_i32_155 : BitVec 32 := 32#32
  let v173 : BitVec 32 := Scalar.remsi v172 c32_i32_155
  let c1_i32_158 : BitVec 32 := 1#32
  let v175 : BitVec 32 := Scalar.muli v173 c1_i32_158
  let v176 : BitVec 32 := Scalar.addi c0_i32_159 v175
  v176.toNat
def k0_dev36 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_163 : BitVec 32 := 5#32
  let v184 : BitVec 32 := Scalar.addi v2 c5_i32_163
  let c32_i32_164 : BitVec 32 := 32#32
  let v185 : BitVec 32 := Scalar.remsi v184 c32_i32_164
  let c1_i32_167 : BitVec 32 := 1#32
  let v187 : BitVec 32 := Scalar.muli v185 c1_i32_167
  let v188 : BitVec 32 := Scalar.addi c0_i32_168 v187
  v188.toNat
def k0_dev37 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_172 : BitVec 32 := 6#32
  let v196 : BitVec 32 := Scalar.addi v2 c6_i32_172
  let c32_i32_173 : BitVec 32 := 32#32
  let v197 : BitVec 32 := Scalar.remsi v196 c32_i32_173
  let c1_i32_176 : BitVec 32 := 1#32
  let v199 : BitVec 32 := Scalar.muli v197 c1_i32_176
  let v200 : BitVec 32 := Scalar.addi c0_i32_177 v199
  v200.toNat
def k0_dev38 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_181 : BitVec 32 := 7#32
  let v208 : BitVec 32 := Scalar.addi v2 c7_i32_181
  let c32_i32_182 : BitVec 32 := 32#32
  let v209 : BitVec 32 := Scalar.remsi v208 c32_i32_182
  let c1_i32_185 : BitVec 32 := 1#32
  let v211 : BitVec 32 := Scalar.muli v209 c1_i32_185
  let v212 : BitVec 32 := Scalar.addi c0_i32_186 v211
  v212.toNat
def k0_dev39 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_190 : BitVec 32 := 8#32
  let v220 : BitVec 32 := Scalar.addi v2 c8_i32_190
  let c32_i32_191 : BitVec 32 := 32#32
  let v221 : BitVec 32 := Scalar.remsi v220 c32_i32_191
  let c1_i32_194 : BitVec 32 := 1#32
  let v223 : BitVec 32 := Scalar.muli v221 c1_i32_194
  let v224 : BitVec 32 := Scalar.addi c0_i32_195 v223
  v224.toNat
def k0_dev40 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_199 : BitVec 32 := 9#32
  let v232 : BitVec 32 := Scalar.addi v2 c9_i32_199
  let c32_i32_200 : BitVec 32 := 32#32
  let v233 : BitVec 32 := Scalar.remsi v232 c32_i32_200
  let c1_i32_203 : BitVec 32 := 1#32
  let v235 : BitVec 32 := Scalar.muli v233 c1_i32_203
  let v236 : BitVec 32 := Scalar.addi c0_i32_204 v235
  v236.toNat
def k0_dev41 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_208 : BitVec 32 := 10#32
  let v244 : BitVec 32 := Scalar.addi v2 c10_i32_208
  let c32_i32_209 : BitVec 32 := 32#32
  let v245 : BitVec 32 := Scalar.remsi v244 c32_i32_209
  let c1_i32_212 : BitVec 32 := 1#32
  let v247 : BitVec 32 := Scalar.muli v245 c1_i32_212
  let v248 : BitVec 32 := Scalar.addi c0_i32_213 v247
  v248.toNat
def k0_dev42 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_217 : BitVec 32 := 11#32
  let v256 : BitVec 32 := Scalar.addi v2 c11_i32_217
  let c32_i32_218 : BitVec 32 := 32#32
  let v257 : BitVec 32 := Scalar.remsi v256 c32_i32_218
  let c1_i32_221 : BitVec 32 := 1#32
  let v259 : BitVec 32 := Scalar.muli v257 c1_i32_221
  let v260 : BitVec 32 := Scalar.addi c0_i32_222 v259
  v260.toNat
def k0_dev43 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_226 : BitVec 32 := 12#32
  let v268 : BitVec 32 := Scalar.addi v2 c12_i32_226
  let c32_i32_227 : BitVec 32 := 32#32
  let v269 : BitVec 32 := Scalar.remsi v268 c32_i32_227
  let c1_i32_230 : BitVec 32 := 1#32
  let v271 : BitVec 32 := Scalar.muli v269 c1_i32_230
  let v272 : BitVec 32 := Scalar.addi c0_i32_231 v271
  v272.toNat
def k0_dev44 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_235 : BitVec 32 := 13#32
  let v280 : BitVec 32 := Scalar.addi v2 c13_i32_235
  let c32_i32_236 : BitVec 32 := 32#32
  let v281 : BitVec 32 := Scalar.remsi v280 c32_i32_236
  let c1_i32_239 : BitVec 32 := 1#32
  let v283 : BitVec 32 := Scalar.muli v281 c1_i32_239
  let v284 : BitVec 32 := Scalar.addi c0_i32_240 v283
  v284.toNat
def k0_dev45 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_244 : BitVec 32 := 14#32
  let v292 : BitVec 32 := Scalar.addi v2 c14_i32_244
  let c32_i32_245 : BitVec 32 := 32#32
  let v293 : BitVec 32 := Scalar.remsi v292 c32_i32_245
  let c1_i32_248 : BitVec 32 := 1#32
  let v295 : BitVec 32 := Scalar.muli v293 c1_i32_248
  let v296 : BitVec 32 := Scalar.addi c0_i32_249 v295
  v296.toNat
def k0_dev46 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_253 : BitVec 32 := 15#32
  let v304 : BitVec 32 := Scalar.addi v2 c15_i32_253
  let c32_i32_254 : BitVec 32 := 32#32
  let v305 : BitVec 32 := Scalar.remsi v304 c32_i32_254
  let c1_i32_257 : BitVec 32 := 1#32
  let v307 : BitVec 32 := Scalar.muli v305 c1_i32_257
  let v308 : BitVec 32 := Scalar.addi c0_i32_258 v307
  v308.toNat
def k0_dev47 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_262 : BitVec 32 := 16#32
  let v316 : BitVec 32 := Scalar.addi v2 c16_i32_262
  let c32_i32_263 : BitVec 32 := 32#32
  let v317 : BitVec 32 := Scalar.remsi v316 c32_i32_263
  let c1_i32_266 : BitVec 32 := 1#32
  let v319 : BitVec 32 := Scalar.muli v317 c1_i32_266
  let v320 : BitVec 32 := Scalar.addi c0_i32_267 v319
  v320.toNat
def k0_dev48 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_271 : BitVec 32 := 17#32
  let v328 : BitVec 32 := Scalar.addi v2 c17_i32_271
  let c32_i32_272 : BitVec 32 := 32#32
  let v329 : BitVec 32 := Scalar.remsi v328 c32_i32_272
  let c1_i32_275 : BitVec 32 := 1#32
  let v331 : BitVec 32 := Scalar.muli v329 c1_i32_275
  let v332 : BitVec 32 := Scalar.addi c0_i32_276 v331
  v332.toNat
def k0_dev49 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_280 : BitVec 32 := 18#32
  let v340 : BitVec 32 := Scalar.addi v2 c18_i32_280
  let c32_i32_281 : BitVec 32 := 32#32
  let v341 : BitVec 32 := Scalar.remsi v340 c32_i32_281
  let c1_i32_284 : BitVec 32 := 1#32
  let v343 : BitVec 32 := Scalar.muli v341 c1_i32_284
  let v344 : BitVec 32 := Scalar.addi c0_i32_285 v343
  v344.toNat
def k0_dev50 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_289 : BitVec 32 := 19#32
  let v352 : BitVec 32 := Scalar.addi v2 c19_i32_289
  let c32_i32_290 : BitVec 32 := 32#32
  let v353 : BitVec 32 := Scalar.remsi v352 c32_i32_290
  let c1_i32_293 : BitVec 32 := 1#32
  let v355 : BitVec 32 := Scalar.muli v353 c1_i32_293
  let v356 : BitVec 32 := Scalar.addi c0_i32_294 v355
  v356.toNat
def k0_dev51 (d0 : Dev nD) : Nat :=
  let c0_i32_303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_298 : BitVec 32 := 20#32
  let v364 : BitVec 32 := Scalar.addi v2 c20_i32_298
  let c32_i32_299 : BitVec 32 := 32#32
  let v365 : BitVec 32 := Scalar.remsi v364 c32_i32_299
  let c1_i32_302 : BitVec 32 := 1#32
  let v367 : BitVec 32 := Scalar.muli v365 c1_i32_302
  let v368 : BitVec 32 := Scalar.addi c0_i32_303 v367
  v368.toNat
def k0_dev52 (d0 : Dev nD) : Nat :=
  let c0_i32_312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_307 : BitVec 32 := 21#32
  let v376 : BitVec 32 := Scalar.addi v2 c21_i32_307
  let c32_i32_308 : BitVec 32 := 32#32
  let v377 : BitVec 32 := Scalar.remsi v376 c32_i32_308
  let c1_i32_311 : BitVec 32 := 1#32
  let v379 : BitVec 32 := Scalar.muli v377 c1_i32_311
  let v380 : BitVec 32 := Scalar.addi c0_i32_312 v379
  v380.toNat
def k0_dev53 (d0 : Dev nD) : Nat :=
  let c0_i32_321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_316 : BitVec 32 := 22#32
  let v388 : BitVec 32 := Scalar.addi v2 c22_i32_316
  let c32_i32_317 : BitVec 32 := 32#32
  let v389 : BitVec 32 := Scalar.remsi v388 c32_i32_317
  let c1_i32_320 : BitVec 32 := 1#32
  let v391 : BitVec 32 := Scalar.muli v389 c1_i32_320
  let v392 : BitVec 32 := Scalar.addi c0_i32_321 v391
  v392.toNat
def k0_dev54 (d0 : Dev nD) : Nat :=
  let c0_i32_330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_325 : BitVec 32 := 23#32
  let v400 : BitVec 32 := Scalar.addi v2 c23_i32_325
  let c32_i32_326 : BitVec 32 := 32#32
  let v401 : BitVec 32 := Scalar.remsi v400 c32_i32_326
  let c1_i32_329 : BitVec 32 := 1#32
  let v403 : BitVec 32 := Scalar.muli v401 c1_i32_329
  let v404 : BitVec 32 := Scalar.addi c0_i32_330 v403
  v404.toNat
def k0_dev55 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_334 : BitVec 32 := 24#32
  let v412 : BitVec 32 := Scalar.addi v2 c24_i32_334
  let c32_i32_335 : BitVec 32 := 32#32
  let v413 : BitVec 32 := Scalar.remsi v412 c32_i32_335
  let c1_i32_338 : BitVec 32 := 1#32
  let v415 : BitVec 32 := Scalar.muli v413 c1_i32_338
  let v416 : BitVec 32 := Scalar.addi c0_i32_339 v415
  v416.toNat
def k0_dev56 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_343 : BitVec 32 := 25#32
  let v424 : BitVec 32 := Scalar.addi v2 c25_i32_343
  let c32_i32_344 : BitVec 32 := 32#32
  let v425 : BitVec 32 := Scalar.remsi v424 c32_i32_344
  let c1_i32_347 : BitVec 32 := 1#32
  let v427 : BitVec 32 := Scalar.muli v425 c1_i32_347
  let v428 : BitVec 32 := Scalar.addi c0_i32_348 v427
  v428.toNat
def k0_dev57 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_352 : BitVec 32 := 26#32
  let v436 : BitVec 32 := Scalar.addi v2 c26_i32_352
  let c32_i32_353 : BitVec 32 := 32#32
  let v437 : BitVec 32 := Scalar.remsi v436 c32_i32_353
  let c1_i32_356 : BitVec 32 := 1#32
  let v439 : BitVec 32 := Scalar.muli v437 c1_i32_356
  let v440 : BitVec 32 := Scalar.addi c0_i32_357 v439
  v440.toNat
def k0_dev58 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_361 : BitVec 32 := 27#32
  let v448 : BitVec 32 := Scalar.addi v2 c27_i32_361
  let c32_i32_362 : BitVec 32 := 32#32
  let v449 : BitVec 32 := Scalar.remsi v448 c32_i32_362
  let c1_i32_365 : BitVec 32 := 1#32
  let v451 : BitVec 32 := Scalar.muli v449 c1_i32_365
  let v452 : BitVec 32 := Scalar.addi c0_i32_366 v451
  v452.toNat
def k0_dev59 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_370 : BitVec 32 := 28#32
  let v460 : BitVec 32 := Scalar.addi v2 c28_i32_370
  let c32_i32_371 : BitVec 32 := 32#32
  let v461 : BitVec 32 := Scalar.remsi v460 c32_i32_371
  let c1_i32_374 : BitVec 32 := 1#32
  let v463 : BitVec 32 := Scalar.muli v461 c1_i32_374
  let v464 : BitVec 32 := Scalar.addi c0_i32_375 v463
  v464.toNat
def k0_dev60 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_379 : BitVec 32 := 29#32
  let v472 : BitVec 32 := Scalar.addi v2 c29_i32_379
  let c32_i32_380 : BitVec 32 := 32#32
  let v473 : BitVec 32 := Scalar.remsi v472 c32_i32_380
  let c1_i32_383 : BitVec 32 := 1#32
  let v475 : BitVec 32 := Scalar.muli v473 c1_i32_383
  let v476 : BitVec 32 := Scalar.addi c0_i32_384 v475
  v476.toNat
def k0_dev61 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_388 : BitVec 32 := 30#32
  let v484 : BitVec 32 := Scalar.addi v2 c30_i32_388
  let c32_i32_389 : BitVec 32 := 32#32
  let v485 : BitVec 32 := Scalar.remsi v484 c32_i32_389
  let c1_i32_392 : BitVec 32 := 1#32
  let v487 : BitVec 32 := Scalar.muli v485 c1_i32_392
  let v488 : BitVec 32 := Scalar.addi c0_i32_393 v487
  v488.toNat
def k0_dev62 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_397 : BitVec 32 := 31#32
  let v496 : BitVec 32 := Scalar.addi v2 c31_i32_397
  let c32_i32_398 : BitVec 32 := 32#32
  let v497 : BitVec 32 := Scalar.remsi v496 c32_i32_398
  let c1_i32_401 : BitVec 32 := 1#32
  let v499 : BitVec 32 := Scalar.muli v497 c1_i32_401
  let v500 : BitVec 32 := Scalar.addi c0_i32_402 v499
  v500.toNat
def k0_off6 (d0 : Dev nD) (c1_i32_407 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_406 : BitVec 32 := 32#32
  let v508 : BitVec 32 := Scalar.addi v2 c32_i32_406
  let v509 : BitVec 32 := Scalar.subi v508 c1_i32_407
  let c32_i32_408 : BitVec 32 := 32#32
  let v510 : BitVec 32 := Scalar.remsi v509 c32_i32_408
  ![v510.toNat]
def k0_off7 (d0 : Dev nD) (c1_i32_407 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_406 : BitVec 32 := 32#32
  let v508 : BitVec 32 := Scalar.addi v2 c32_i32_406
  let v509 : BitVec 32 := Scalar.subi v508 c1_i32_407
  let c32_i32_408 : BitVec 32 := 32#32
  let v510 : BitVec 32 := Scalar.remsi v509 c32_i32_408
  let c0_i32_412 : BitVec 32 := 0#32
  let c0_i32_413 : BitVec 32 := 0#32
  ![v510.toNat, 0, 0]
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cells.lean ====
/- The names of the proof: the devices of the ring, the blocks of a device's `x` and of its gather buffer that a
   copy moves, the semaphores, and what the buffers hold. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.AllToAll

open Cert.KernelIdeal Cert.KernelIdeal.Gen

open Idealize.ShloMosaic
open Idealize.ShloMosaic.TcCoe

variable {F : FTy → Type} [FloatOps F]

/-! ## The devices -/

/-- The device `k` places after `c` around the mesh. -/
def fwd (c : Dev nD) (k : ℕ) : Dev nD := ⟨(c.val + k) % 32, Nat.mod_lt _ (by decide)⟩
/-- The device `k` places before `c`. -/
def bwd (c : Dev nD) (k : ℕ) : Dev nD := ⟨(c.val + (32 - k)) % 32, Nat.mod_lt _ (by decide)⟩

theorem dev_lt (c : Dev nD) : c.val < 32 := c.isLt

theorem fwd_val (c : Dev nD) (k : ℕ) : (fwd c k).val = (c.val + k) % 32 := rfl
theorem bwd_val (c : Dev nD) (k : ℕ) : (bwd c k).val = (c.val + (32 - k)) % 32 := rfl

theorem bwd_fwd (c : Dev nD) {k : ℕ} (hk : k < 32) : bwd (fwd c k) k = c := by
  have := dev_lt c
  exact Fin.ext (by rw [bwd_val, fwd_val]; omega)
theorem fwd_bwd (c : Dev nD) {k : ℕ} (hk : k < 32) : fwd (bwd c k) k = c := by
  have := dev_lt c
  exact Fin.ext (by rw [fwd_val, bwd_val]; omega)
theorem fwd_ne (c : Dev nD) {k : ℕ} (h0 : 1 ≤ k) (hk : k < 32) : fwd c k ≠ c := fun h => by
  have := dev_lt c
  have h := congrArg Fin.val h
  rw [fwd_val] at h; omega
theorem bwd_ne (c : Dev nD) {k : ℕ} (h0 : 1 ≤ k) (hk : k < 32) : bwd c k ≠ c := fun h => by
  have := dev_lt c
  have h := congrArg Fin.val h
  rw [bwd_val] at h; omega
theorem fwd_inj (c : Dev nD) : Set.InjOn (fwd c) (Finset.Ico 1 32 : Finset ℕ) := fun k hk k' hk' h => by
  have := dev_lt c
  have hk := Finset.mem_Ico.mp (Finset.mem_coe.mp hk)
  have hk' := Finset.mem_Ico.mp (Finset.mem_coe.mp hk')
  have h := congrArg Fin.val h
  rw [fwd_val, fwd_val] at h; omega
theorem bwd_inj (c : Dev nD) : Set.InjOn (bwd c) (Finset.Ico 1 32 : Finset ℕ) := fun k hk k' hk' h => by
  have := dev_lt c
  have hk := Finset.mem_Ico.mp (Finset.mem_coe.mp hk)
  have hk' := Finset.mem_Ico.mp (Finset.mem_coe.mp hk')
  have h := congrArg Fin.val h
  rw [bwd_val, bwd_val] at h; omega
/-- The other devices are those 1 to 31 places after `c`; -/
theorem image_fwd (c : Dev nD) : (Finset.Ico 1 32).image (fwd c) = Finset.univ.erase c := by
  ext d
  rw [Finset.mem_image, Finset.mem_erase]
  have hc := dev_lt c
  have hd := dev_lt d
  constructor
  · rintro ⟨k, hk, rfl⟩
    have hk := Finset.mem_Ico.mp hk
    exact ⟨fwd_ne c hk.1 hk.2, Finset.mem_univ _⟩
  · rintro ⟨hne, -⟩
    have hne : d.val ≠ c.val := fun h => hne (Fin.ext h)
    exact ⟨(d.val + 32 - c.val) % 32, Finset.mem_Ico.mpr (by omega), Fin.ext (by rw [fwd_val]; omega)⟩
/-- and those 1 to 31 places before. -/
theorem image_bwd (c : Dev nD) : (Finset.Ico 1 32).image (bwd c) = Finset.univ.erase c := by
  ext d
  rw [Finset.mem_image, Finset.mem_erase]
  have hc := dev_lt c
  have hd := dev_lt d
  constructor
  · rintro ⟨k, hk, rfl⟩
    have hk := Finset.mem_Ico.mp hk
    exact ⟨bwd_ne c hk.1 hk.2, Finset.mem_univ _⟩
  · rintro ⟨hne, -⟩
    have hne : d.val ≠ c.val := fun h => hne (Fin.ext h)
    exact ⟨(c.val + 32 - d.val) % 32, Finset.mem_Ico.mpr (by omega), Fin.ext (by rw [bwd_val]; omega)⟩

/-- Moving `k` places round is a permutation of the devices. -/
def turn (k : ℕ) (hk : k < 32) : Dev nD ≃ Dev nD := ⟨fun c => fwd c k, fun c => bwd c k, fun c => bwd_fwd c hk, fun c => fwd_bwd c hk⟩

/-! ## The buffers and their blocks -/

abbrev xM : Memref sig .tc .vmem S2048x64 .f32 := Memref.whole cc0_stg0_0
abbrev wM : Memref sig .tc .vmem S2048x2048 .f32 := Memref.whole cc0_stg1_0
abbrev oM : Memref sig .tc .vmem S64x2048 .f32 := Memref.whole cc0_stg2_0
abbrev gM : Memref sig .tc .vmem S32x64x64 .f32 := Memref.whole cc0_scratch0

theorem rows_inb (t : Dev nD) : ∀ a, (![64 * t.val, 0] : Fin 2 → ℕ) a + S64x64.size a ≤ S2048x64.size a := by
  have := dev_lt t
  intro a
  fin_cases a
  · show 64 * t.val + 64 ≤ 2048; omega
  · exact le_rfl
theorem slot_inb (s : Dev nD) : ∀ a, (![s.val, 0, 0] : Fin 3 → ℕ) a + S1x64x64.size a ≤ S32x64x64.size a := by
  have := dev_lt s
  intro a
  fin_cases a
  · show s.val + 1 ≤ 32; omega
  · exact le_rfl
  · exact le_rfl

abbrev rowsR (t : Dev nD) : Rect S2048x64 := Rect.unit (s := S2048x64) ![64 * t.val, 0] S64x64.size (rows_inb t)
abbrev slotR (s : Dev nD) : Rect S32x64x64 := Rect.unit (s := S32x64x64) ![s.val, 0, 0] S1x64x64.size (slot_inb s)

/-- Rows `64 t` to `64 t + 63` of a device's `x`. -/
abbrev rowsM (t : Dev nD) : Memref sig .tc .vmem S64x64 .f32 := xM.slice (rowsR t) (fun _ => rfl)
/-- Slot `s` of a device's gather buffer. -/
abbrev slotM (s : Dev nD) : Memref sig .tc .vmem S64x64 .f32 :=
  ((gM.slice (slotR s) (fun _ => rfl) : Memref sig .tc .vmem S1x64x64 .f32)).squeeze S64x64 squeezes_S1x64x64_S64x64

abbrev N : ℕ := (slotM 0).view.dmaCredit
theorem N_pos : 0 < N := View.dmaCredit_pos _ (by decide)
theorem credit_slot (s : Dev nD) : (slotM s).view.dmaCredit = N := rfl
theorem credit_rows (t : Dev nD) : (rowsM t).view.dmaCredit = N := rfl

/-- The copies' blocks as the kernel spells them: at an offset equal to the block's. -/
theorem rows_eq {off : Fin 2 → ℕ} {t : Dev nD} (h : off = ![64 * t.val, 0]) (hi : ∀ a, off a + S64x64.size a ≤ S2048x64.size a) :
    xM.slice (Rect.unit (s := S2048x64) off S64x64.size hi) (fun _ => rfl) = rowsM t := by subst h; rfl
theorem slot_eq {off : Fin 3 → ℕ} {s : Dev nD} (h : off = ![s.val, 0, 0]) (hi : ∀ a, off a + S1x64x64.size a ≤ S32x64x64.size a) :
    ((gM.slice (Rect.unit (s := S32x64x64) off S1x64x64.size hi) (fun _ => rfl) : Memref sig .tc .vmem S1x64x64 .f32)).squeeze S64x64 squeezes_S1x64x64_S64x64
      = slotM s := by subst h; rfl

abbrev rowsSet (t : Dev nD) : Finset S2048x64.Idx := (rowsM t).view.set
abbrev slotSet (s : Dev nD) : Finset S32x64x64.Idx := (slotM s).view.set

theorem rowsSet_eq (t : Dev nD) : rowsSet t = (rowsR t).set := View.set_slice_whole cc0_stg0_0 (rowsR t)
theorem slotSet_eq (s : Dev nD) : slotSet s = (slotR s).set := by
  unfold slotSet slotM
  rw [Memref.set_view_squeeze]
  exact View.set_slice_whole cc0_scratch0 (slotR s)

theorem mem_rowsSet (t : Dev nD) (i : S2048x64.Idx) : i ∈ rowsSet t ↔ (i 0).val / 64 = t.val := by
  rw [rowsSet_eq, Rect.mem_set_unit]
  have hi : (i 1).val < 64 := (i 1).isLt
  constructor
  · intro h
    have h0 : 64 * t.val ≤ (i 0).val ∧ (i 0).val < 64 * t.val + 64 := h 0
    omega
  · intro h a
    fin_cases a
    · show 64 * t.val ≤ (i 0).val ∧ (i 0).val < 64 * t.val + 64; omega
    · show 0 ≤ (i 1).val ∧ (i 1).val < 0 + 64; omega
theorem mem_slotSet (s : Dev nD) (i : S32x64x64.Idx) : i ∈ slotSet s ↔ (i 0).val = s.val := by
  rw [slotSet_eq, Rect.mem_set_unit]
  have h1 : (i 1).val < 64 := (i 1).isLt
  have h2 : (i 2).val < 64 := (i 2).isLt
  constructor
  · intro h
    have h0 : s.val ≤ (i 0).val ∧ (i 0).val < s.val + 1 := h 0
    omega
  · intro h a
    fin_cases a
    · show s.val ≤ (i 0).val ∧ (i 0).val < s.val + 1; omega
    · show 0 ≤ (i 1).val ∧ (i 1).val < 0 + 64; omega
    · show 0 ≤ (i 2).val ∧ (i 2).val < 0 + 64; omega

theorem rows_disjoint (t t' : Dev nD) (h : t ≠ t') : Disjoint (rowsSet t) (rowsSet t') :=
  Finset.disjoint_left.mpr fun i hi hi' => h (Fin.ext (((mem_rowsSet t i).mp hi).symm.trans ((mem_rowsSet t' i).mp hi')))
theorem slot_disjoint (s s' : Dev nD) (h : s ≠ s') : Disjoint (slotSet s) (slotSet s') :=
  Finset.disjoint_left.mpr fun i hi hi' => h (Fin.ext (((mem_slotSet s i).mp hi).symm.trans ((mem_slotSet s' i).mp hi')))
theorem rows_cover : Finset.univ.biUnion rowsSet = Finset.univ :=
  Finset.eq_univ_iff_forall.mpr fun i => Finset.mem_biUnion.mpr
    ⟨⟨(i 0).val / 64, by have : (i 0).val < 2048 := (i 0).isLt; show _ < 32; omega⟩, Finset.mem_univ _, (mem_rowsSet _ i).mpr rfl⟩
theorem slot_cover : Finset.univ.biUnion slotSet = Finset.univ :=
  Finset.eq_univ_iff_forall.mpr fun i => Finset.mem_biUnion.mpr ⟨i 0, Finset.mem_univ _, (mem_slotSet _ i).mpr rfl⟩

/-- Where the elements of the blocks lie. -/
theorem rows_emb (t : Dev nD) (j : S64x64.Idx) :
    (rowsM t).view.emb j = ValueIdx.ix2 ⟨64 * t.val + (j 0).val, by have := dev_lt t; have : (j 0).val < 64 := (j 0).isLt; show _ < 2048; omega⟩ (j 1) := by
  funext a
  fin_cases a
  · exact Fin.ext (by show 64 * t.val + 1 * (j 0).val = _; rw [Nat.one_mul])
  · exact Fin.ext (by show 0 + 1 * (j 1).val = _; rw [Nat.one_mul, Nat.zero_add])

theorem slot_emb (s : Dev nD) (j : S64x64.Idx) :
    (slotM s).view.emb j = ValueIdx.ix3 ⟨s.val, dev_lt s⟩ (j 0) (j 1) := by
  have hj : Shape.reshapeEquiv (s := S1x64x64) squeezes_S1x64x64_S64x64.numel_eq j = ValueIdx.ix3 (⟨0, Nat.one_pos⟩ : Fin 1) (j 0) (j 1) := by
    rw [ValueIdx.eq_ix2 j]
    exact ValueIdx.reshapeEquiv_ix2_1ab (a := 64) (b := 64) _ (j 0) (j 1)
  show (slotR s).emb (Shape.reshapeEquiv (s := S1x64x64) squeezes_S1x64x64_S64x64.numel_eq j) = _
  rw [hj]
  funext a
  fin_cases a
  · exact Fin.ext (by show s.val + 1 * 0 = _; rw [Nat.mul_zero, Nat.add_zero])
  · exact Fin.ext (by show 0 + 1 * (j 0).val = _; rw [Nat.one_mul, Nat.zero_add])
  · exact Fin.ext (by show 0 + 1 * (j 1).val = _; rw [Nat.one_mul, Nat.zero_add])

/-! ## The semaphores -/

/-- The runtime's barrier semaphore of collective id 0. -/
abbrev barS : Sem sig := (SemArray.scalar (sig.barrier 0 rfl) : Sems sig S_).sem
/-- The kernel's DMA semaphores: the 32 it sends on, then the 32 it receives on. -/
def dsem (i : ℕ) : DmaSem sig := ⟨3 + i % 64, by show _ < 67; have := Nat.mod_lt i (show 0 < 64 by decide); omega⟩
abbrev sendS (k : ℕ) : DmaSem sig := dsem k
abbrev recvS (s : Dev nD) : DmaSem sig := dsem (32 + s.val)

theorem dsem_inj {i j : ℕ} (hi : i < 64) (hj : j < 64) (h : dsem i = dsem j) : i = j := by
  have h := congrArg Fin.val h
  unfold dsem at h
  simp only at h
  omega

theorem emb_unit1 {off : Fin 1 → ℕ} (hi : ∀ a, off a + S1.size a ≤ S32.size a) (j : S_.Idx) :
    ((S32.rowMajor ((Rect.unit (s := S32) off S1.size hi).emb (Shape.reshapeEquiv (s := S1) squeezes_S1_S_.numel_eq j))).val) = off 0 := by
  rw [Shape.rowMajor_val_one]
  have h : ((Shape.reshapeEquiv (s := S1) squeezes_S1_S_.numel_eq j) 0).val = 0 := by
    have := ((Shape.reshapeEquiv (s := S1) squeezes_S1_S_.numel_eq j) 0).isLt
    have : ((Shape.reshapeEquiv (s := S1) squeezes_S1_S_.numel_eq j) 0).val < 1 := this
    omega
  show off 0 + 1 * ((Shape.reshapeEquiv (s := S1) squeezes_S1_S_.numel_eq j) 0).val = off 0
  rw [h, Nat.mul_zero, Nat.add_zero]

/-- The kernel's semaphore arrays at an index. -/
theorem sendS_eq {off : Fin 1 → ℕ} {k : ℕ} (h : off 0 = k) (hk : k < 32) (hi : ∀ a, off a + S1.size a ≤ S32.size a) :
    ((cc0_scratch1.slice (Rect.unit (s := S32) off S1.size hi) : DmaSems sig S1).squeeze S_ squeezes_S1_S_).sem = sendS k := by
  refine Fin.ext ?_
  show 3 + (S32.rowMajor ((Rect.unit (s := S32) off S1.size hi).emb (Shape.reshapeEquiv (s := S1) squeezes_S1_S_.numel_eq fun i => i.elim0))).val = 3 + k % 64
  rw [emb_unit1, h, Nat.mod_eq_of_lt (by omega)]
theorem recvS_eq {off : Fin 1 → ℕ} {s : Dev nD} (h : off 0 = s.val) (hi : ∀ a, off a + S1.size a ≤ S32.size a) :
    ((cc0_scratch2.slice (Rect.unit (s := S32) off S1.size hi) : DmaSems sig S1).squeeze S_ squeezes_S1_S_).sem = recvS s := by
  have := dev_lt s
  refine Fin.ext ?_
  show 35 + (S32.rowMajor ((Rect.unit (s := S32) off S1.size hi).emb (Shape.reshapeEquiv (s := S1) squeezes_S1_S_.numel_eq fun i => i.elim0))).val = 3 + (32 + s.val) % 64
  rw [emb_unit1, h, Nat.mod_eq_of_lt (by omega)]; omega

abbrev barCell (c : Dev nD) : GSem nD τ sig := ((c : Thread nD τ), .reg barS)
abbrev dmaCell (c : Dev nD) (i : ℕ) : GSem nD τ sig := ((c : Thread nD τ), .dma (dsem i))
abbrev sendCell (c : Dev nD) (k : ℕ) : GSem nD τ sig := dmaCell c k
abbrev recvCell (c s : Dev nD) : GSem nD τ sig := dmaCell c (32 + s.val)

/-! ## The contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s `x` and weights, as its body finds them in their staging buffers. -/
def xstg (c : Dev nD) : Vec F S2048x64 .f32 :=
  (win0_0.blk (0 : Fin 1)).view.read (Elt F) ((s₀ m ρ).mem ((c : Thread nD τ).loc main_arg0))
def wstg (c : Dev nD) : Vec F S2048x2048 .f32 :=
  (win0_1.blk (0 : Fin 1)).view.read (Elt F) ((s₀ m ρ).mem ((c : Thread nD τ).loc main_arg1))

/-- What device `c` gathers: in slot `s`, rows `64 c` to `64 c + 63` of device `s`'s `x`. -/
def gath (c : Dev nD) : Vec F S32x64x64 .f32 := fun i =>
  xstg m ρ (i 0) (ValueIdx.ix2 ⟨64 * c.val + (i 1).val, by
    have := dev_lt c; have : (i 1).val < 64 := (i 1).isLt; show _ < 2048; omega⟩ (i 2))

omit [FloatOps F] in
/-- A copy of device `s`'s rows for `c` into slot `s` leaves there what `c` gathers. -/
theorem landed (c s : Dev nD) (fd : S32x64x64.Idx → Elt F .f32) (i : S32x64x64.Idx) (hi : i ∈ slotSet s) :
    (slotM s).view.write (Elt F) fd ((rowsM c).view.read (Elt F) (xstg m ρ s)) Finset.univ i = gath m ρ c i := by
  obtain ⟨j, -, rfl⟩ := Finset.mem_map.mp hi
  rw [View.write_emb_of_mem _ _ (Finset.mem_univ _)]
  show xstg m ρ s ((rowsM c).view.emb j) = gath m ρ c ((slotM s).view.emb j)
  rw [rows_emb, slot_emb]
  rfl

theorem slotR_emb (s : Dev nD) (y : S1x64x64.Idx) : (slotR s).emb y = ValueIdx.ix3 ⟨s.val, dev_lt s⟩ (y 1) (y 2) := by
  have h0 : (y 0).val < 1 := (y 0).isLt
  funext a
  fin_cases a
  · exact Fin.ext (by show s.val + 1 * (y 0).val = s.val; omega)
  · exact Fin.ext (by show 0 + 1 * (y 1).val = (y 1).val; omega)
  · exact Fin.ext (by show 0 + 1 * (y 2).val = (y 2).val; omega)

/-- The element the block's copy into its own slot stores at `(0, x, y)`: row `x`, column `y` of the block. -/
theorem pay2_apply (v : Vec F S64x64 .f32) (y : S1x64x64.Idx) : k0_pay2 v y = v (ValueIdx.ix2 (y 1) (y 2)) := by
  have h0 : (y 0).val < 1 := (y 0).isLt
  show shapeCast S1x64x64 (shapeCast S64x64 v shapeCasts_S64x64_S64x64) shapeCasts_S64x64_S1x64x64 y = _
  rw [shapeCast_self]
  refine shapeCast_apply v _ y (ValueIdx.ix2 (y 1) (y 2)) ?_
  rw [Shape.rowMajor_val_three, Shape.rowMajor_val_two]
  show (y 1).val * 64 + (y 2).val = ((y 0).val * 64 + (y 1).val) * 64 + (y 2).val
  omega

/-- Device `c`'s own rows, loaded and stored in its own slot, leave there what `c` gathers. -/
theorem stored (c : Dev nD) (f : S32x64x64.Idx → Elt F .f32) (i : S32x64x64.Idx) (hi : i ∈ slotSet c) :
    (gM.access (slotR c)).write (Elt F) f (k0_pay2 (xM.view.readAt (Elt F) (rowsR c).toLoadRect (xstg m ρ c))) Finset.univ i = gath m ρ c i := by
  have hs : slotSet c = (gM.access (slotR c)).set := (slotSet_eq c).trans (View.set_slice_whole cc0_scratch0 (slotR c)).symm
  rw [hs] at hi
  obtain ⟨y, -, rfl⟩ := Finset.mem_map.mp hi
  rw [View.write_emb_of_mem _ _ (Finset.mem_univ _)]
  show k0_pay2 (xM.view.readAt (Elt F) (rowsR c).toLoadRect (xstg m ρ c)) y = gath m ρ c ((slotR c).emb y)
  rw [pay2_apply, slotR_emb]
  show xstg m ρ c ((rowsM c).view.emb (ValueIdx.ix2 (y 1) (y 2))) = _
  rw [rows_emb]
  rfl

end Cert.AllToAll

end
-- ==== Proof.Schedule.lean ====
/- The protocol: what each raise of a semaphore hands over, what each device owes at launch, and the order of the
   waits. -/
module

public import proofs.«01_k».proof.Proof.Cells
public import Idealize.ShloMosaic.Lib.Ring
public import Mathlib.Algebra.BigOperators.Intervals

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's part, and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The blocks as resources -/

/-- Slot `s` of device `d`'s gather buffer, at `f`. -/
def slotPts (d s : Dev nD) (f : S32x64x64.Idx → Elt F .f32) : sProp 𝕄 :=
  (gM : Memref sig .tc .vmem S32x64x64 .f32).view.loc (d : Thread nD τ) ↦[slotSet s]{fullShare} f
/-- The rows of device `c`'s `x` that go to device `t`. -/
def rowsPts (c t : Dev nD) : sProp 𝕄 :=
  (xM : Memref sig .tc .vmem S2048x64 .f32).view.loc (c : Thread nD τ) ↦[rowsSet t]{fullShare} xstg m ρ c

omit [FloatOps F] in
instance slotPts_storable (d s : Dev nD) (f) : BI.Storable (upEmb : UEmb _ 𝕄) (slotPts (F := F) d s f) := by unfold slotPts; infer_instance
omit [FloatOps F] in
instance rowsPts_storable (c t : Dev nD) : BI.Storable (upEmb : UEmb _ 𝕄) (rowsPts (F := F) m ρ c t) := by unfold rowsPts; infer_instance

omit [FloatOps F] in
/-- A gather buffer is its 32 slots; -/
theorem slots_split (d : Dev nD) (f : S32x64x64.Idx → Elt F .f32) :
    ((((d : Thread nD τ).loc cc0_scratch0) ↦{fullShare} f : sProp 𝕄)) = bigSep Finset.univ fun s => slotPts d s f :=
  Idealize.ShloMosaic.Ring.pointsTo_blocks (ℓ := (d : Thread nD τ).loc cc0_scratch0) slotSet slot_disjoint slot_cover f
omit [FloatOps F] in
/-- a staged `x` its 32 blocks of rows. -/
theorem rows_split (c : Dev nD) :
    ((((c : Thread nD τ).loc cc0_stg0_0) ↦{fullShare} xstg m ρ c : sProp 𝕄)) = bigSep Finset.univ fun t => rowsPts m ρ c t :=
  Idealize.ShloMosaic.Ring.pointsTo_blocks (ℓ := (c : Thread nD τ).loc cc0_stg0_0) rowsSet rows_disjoint rows_cover (xstg m ρ c)

/-! ## The schedule: one round -/

/-- The one duty of a transfer's cells. -/
abbrev dd : Dev nD := ⟨0, by decide⟩

/-- The barrier cell of `c` has a duty of one unit for each other device `d`, which hands over slot `c` of `d`'s gather
    buffer. The cell `c` sends on `k` places ahead (`0 < k`) has one duty, of a block's credit, which hands the block of
    rows back; the cell `c` receives on from another device `s`, one which hands over slot `s` of `c`'s own buffer,
    filled. The two cells of no transfer have no duty. -/
def sched : Rounds.Schedule (GSem nD τ sig) (Dev nD) 𝕄 where
  duties g r := if r = 0 ∧ g.1.2 = .tc then
      match g.2 with
      | .reg s => if s = barS then Finset.univ.erase g.1.1 else ∅
      | .dma q => if 3 < q.val ∧ q.val ≠ 35 + g.1.1.val then {dd} else ∅
    else ∅
  unitless _ := False
  amount g _ _ := match g.2 with
    | .reg _ => 1
    | .dma _ => N
  payload g _ d := match g.2 with
    | .reg _ => iprop(∃ f, slotPts d g.1.1 f)
    | .dma q => if q.val < 35 then rowsPts m ρ g.1.1 (fwd g.1.1 (q.val - 3))
        else slotPts g.1.1 ⟨(q.val - 35) % 32, Nat.mod_lt _ (by decide)⟩ (gath m ρ g.1.1)
  amount_pos g _ _ _ := by
    rcases g with ⟨t, s | q⟩
    · exact Nat.one_pos
    · exact N_pos

instance sched_payload_storable (g : GSem nD τ sig) (r : ℕ) (d : Dev nD) :
    BI.Storable (upEmb : UEmb _ 𝕄) ((sched (F := F) m ρ).payload g r d) := by
  rcases g with ⟨t, s | q⟩
  · show BI.Storable upEmb iprop(∃ f, slotPts d t.1 f)
    infer_instance
  · show BI.Storable upEmb (if q.val < 35 then rowsPts m ρ t.1 (fwd t.1 (q.val - 3))
        else slotPts t.1 ⟨(q.val - 35) % 32, Nat.mod_lt _ (by decide)⟩ (gath m ρ t.1))
    split <;> infer_instance

section Sched
variable (c : Dev nD)

theorem dsem_val {i : ℕ} (hi : i < 64) : (dsem i).val = 3 + i := by
  show 3 + i % 64 = 3 + i
  rw [Nat.mod_eq_of_lt hi]

theorem duties_bar : (sched (F := F) m ρ).duties (barCell c) 0 = Finset.univ.erase c := rfl
theorem duties_dma {i : ℕ} (hi : i < 64) (h0 : i ≠ 0) (h1 : i ≠ 32 + c.val) : (sched (F := F) m ρ).duties (dmaCell c i) 0 = {dd} := by
  show (if 3 < (dsem i).val ∧ (dsem i).val ≠ 35 + c.val then ({dd} : Finset (Dev nD)) else ∅) = {dd}
  rw [dsem_val hi]
  exact if_pos ⟨by omega, by omega⟩
theorem duties_idle {i : ℕ} (hi : i < 64) (h : i = 0 ∨ i = 32 + c.val) : (sched (F := F) m ρ).duties (dmaCell c i) 0 = ∅ := by
  show (if 3 < (dsem i).val ∧ (dsem i).val ≠ 35 + c.val then ({dd} : Finset (Dev nD)) else ∅) = ∅
  rw [dsem_val hi]
  exact if_neg (by omega)
theorem duties_later (g : GSem nD τ sig) : ∀ r, 1 ≤ r → (sched (F := F) m ρ).duties g r = ∅ :=
  fun r hr => if_neg fun h => by omega
theorem duties_idle_all {i : ℕ} (hi : i < 64) (h : i = 0 ∨ i = 32 + c.val) : ∀ r, 0 ≤ r → (sched (F := F) m ρ).duties (dmaCell c i) r = ∅ :=
  fun r _ => by
    rcases Nat.eq_zero_or_pos r with rfl | hr
    · exact duties_idle m ρ c hi h
    · exact duties_later m ρ _ r hr

theorem duties_send {k : ℕ} (h0 : 1 ≤ k) (hk : k < 32) : (sched (F := F) m ρ).duties (sendCell c k) 0 = {dd} :=
  duties_dma m ρ c (by omega) (by omega) (by omega)
theorem duties_recv {s : Dev nD} (h : s ≠ c) : (sched (F := F) m ρ).duties (recvCell c s) 0 = {dd} := by
  have := dev_lt s
  have h : s.val ≠ c.val := fun e => h (Fin.ext e)
  exact duties_dma m ρ c (by omega) (by omega) (by omega)

theorem amount_bar (d : Dev nD) : (sched (F := F) m ρ).amount (barCell c) 0 d = 1 := rfl
theorem amount_dma (i : ℕ) (d : Dev nD) : (sched (F := F) m ρ).amount (dmaCell c i) 0 d = N := rfl

theorem expect_bar : (sched (F := F) m ρ).expect (barCell c) 0 = 31 := by
  unfold Schedule.expect Schedule.amountOf
  rw [duties_bar, Finset.sum_congr rfl fun d _ => amount_bar m ρ c d, Finset.sum_const, Finset.card_erase_of_mem (Finset.mem_univ c), smul_eq_mul,
    Nat.mul_one, Finset.card_univ, Fintype.card_fin]
  rfl
theorem expect_send {k : ℕ} (h0 : 1 ≤ k) (hk : k < 32) : (sched (F := F) m ρ).expect (sendCell c k) 0 = N := by
  unfold Schedule.expect Schedule.amountOf
  rw [duties_send m ρ c h0 hk, Finset.sum_singleton, amount_dma]
theorem expect_recv {s : Dev nD} (h : s ≠ c) : (sched (F := F) m ρ).expect (recvCell c s) 0 = N := by
  unfold Schedule.expect Schedule.amountOf
  rw [duties_recv m ρ c h, Finset.sum_singleton, amount_dma]

theorem payload_bar (d : Dev nD) : (sched (F := F) m ρ).payload (barCell c) 0 d = iprop(∃ f, slotPts d c f) := rfl
theorem payload_send {k : ℕ} (hk : k < 32) (d : Dev nD) : (sched (F := F) m ρ).payload (sendCell c k) 0 d = rowsPts m ρ c (fwd c k) := by
  show (if (dsem k).val < 35 then rowsPts m ρ c (fwd c ((dsem k).val - 3))
        else slotPts c ⟨((dsem k).val - 35) % 32, Nat.mod_lt _ (by decide)⟩ (gath m ρ c)) = _
  rw [if_pos (by rw [dsem_val (by omega)]; omega), dsem_val (by omega), Nat.add_sub_cancel_left]
theorem payload_recv (s d : Dev nD) : (sched (F := F) m ρ).payload (recvCell c s) 0 d = slotPts c s (gath m ρ c) := by
  have hs := dev_lt s
  show (if (dsem (32 + s.val)).val < 35 then rowsPts m ρ c (fwd c ((dsem (32 + s.val)).val - 3))
        else slotPts c ⟨((dsem (32 + s.val)).val - 35) % 32, Nat.mod_lt _ (by decide)⟩ (gath m ρ c)) = _
  have hv : (dsem (32 + s.val)).val = 35 + s.val := (dsem_val (by omega)).trans (by omega)
  rw [if_neg (by rw [hv]; omega)]
  congr 1
  exact Fin.ext (by show ((dsem (32 + s.val)).val - 35) % 32 = s.val; rw [hv]; omega)

/-- The whole of a barrier cell's round: slot `c` of every other device's buffer. -/
theorem rest_bar : bigSep ((sched (F := F) m ρ).duties (barCell c) 0 \ ∅) (fun d => (sched (F := F) m ρ).payload (barCell c) 0 d)
    = bigSep (Finset.Ico 1 32) fun k => iprop(∃ f, slotPts (F := F) (fwd c k) c f) := by
  rw [Finset.sdiff_empty, duties_bar, ← image_fwd, bigSep_image_of_injOn (fwd_inj c)]
  rfl
theorem rest_send {k : ℕ} (h0 : 1 ≤ k) (hk : k < 32) :
    bigSep ((sched (F := F) m ρ).duties (sendCell c k) 0 \ ∅) (fun d => (sched (F := F) m ρ).payload (sendCell c k) 0 d) = rowsPts m ρ c (fwd c k) := by
  rw [Finset.sdiff_empty, duties_send m ρ c h0 hk, bigSep_singleton, payload_send m ρ c hk]
theorem rest_recv {s : Dev nD} (h : s ≠ c) :
    bigSep ((sched (F := F) m ρ).duties (recvCell c s) 0 \ ∅) (fun d => (sched (F := F) m ρ).payload (recvCell c s) 0 d) = slotPts c s (gath m ρ c) := by
  rw [Finset.sdiff_empty, duties_recv m ρ c h, bigSep_singleton, payload_recv]

end Sched

/-! ## What each device owes at launch; the levels of the waits -/

/-- The unit device `c` owes the barrier cell of each device `j` places ahead, `k ≤ j`; -/
def oweBar (c : Dev nD) (k : ℕ) : CellTallies nD τ sig Unit := ∑ j ∈ Finset.Ico k 32, tallyAt (barCell (fwd c j)) () 1
/-- and the block's credit it owes the cell that device receives on from `c`. -/
def oweRecv (c : Dev nD) (k : ℕ) : CellTallies nD τ sig Unit := ∑ j ∈ Finset.Ico k 32, tallyAt (recvCell (fwd c j) c) () N
def O₀ (c : Dev nD) : CellTallies nD τ sig Unit := oweRecv c 1 + oweBar c 1

theorem oweBar_step (c : Dev nD) {k : ℕ} (hk : k < 32) : oweBar c k = oweBar c (k + 1) + tallyAt (barCell (fwd c k)) () 1 := by
  unfold oweBar; rw [Finset.sum_eq_sum_Ico_succ_bot hk, add_comm]
theorem oweRecv_step (c : Dev nD) {k : ℕ} (hk : k < 32) : oweRecv c k = oweRecv c (k + 1) + tallyAt (recvCell (fwd c k) c) () N := by
  unfold oweRecv; rw [Finset.sum_eq_sum_Ico_succ_bot hk, add_comm]
theorem oweBar_end (c : Dev nD) : oweBar c 32 = 0 := by unfold oweBar; rw [Finset.Ico_self, Finset.sum_empty]
theorem oweRecv_end (c : Dev nD) : oweRecv c 32 = 0 := by unfold oweRecv; rw [Finset.Ico_self, Finset.sum_empty]

theorem tally_sum_apply {ι : Type} (S : Finset ι) (f : ι → CellTallies nD τ sig Unit) (g : GSem nD τ sig) (u : Unit) :
    (∑ j ∈ S, f j) g u = ∑ j ∈ S, f j g u := by
  rw [Finset.sum_apply, Finsupp.finset_sum_apply]

theorem oweBar_pos {c : Dev nD} {k : ℕ} {g : GSem nD τ sig} {u : Unit} (h : 0 < oweBar c k g u) : ∃ d, g = barCell d := by
  unfold oweBar at h
  rw [tally_sum_apply] at h
  obtain ⟨j, -, hj⟩ := Finset.exists_ne_zero_of_sum_ne_zero h.ne'
  rw [tallyAt_apply] at hj
  by_contra hn
  exact hj (if_neg fun h' => hn ⟨_, h'.1⟩)
theorem oweRecv_pos {c : Dev nD} {k : ℕ} {g : GSem nD τ sig} {u : Unit} (h : 0 < oweRecv c k g u) : ∃ d, g = recvCell d c := by
  unfold oweRecv at h
  rw [tally_sum_apply] at h
  obtain ⟨j, -, hj⟩ := Finset.exists_ne_zero_of_sum_ne_zero h.ne'
  rw [tallyAt_apply] at hj
  by_contra hn
  exact hj (if_neg fun h' => hn ⟨_, h'.1⟩)
theorem O₀_pos {c : Dev nD} {g : GSem nD τ sig} {u : Unit} (h : 0 < O₀ c g u) : (∃ d, g = barCell d) ∨ ∃ d, g = recvCell d c := by
  unfold O₀ at h
  rw [Pi.add_apply, Finsupp.add_apply] at h
  rcases Nat.eq_zero_or_pos (oweRecv c 1 g u) with h0 | h0
  · rw [h0, Nat.zero_add] at h
    exact Or.inl (oweBar_pos h)
  · exact Or.inr (oweRecv_pos h0)

def L (g : GSem nD τ sig) : Finset Unit := if g.1.2 = .tc then {()} else ∅
/-- Barrier cells at 1, receive cells at 2, everything else (staging and send) at 0. -/
def lv (g : GSem nD τ sig) (_ : Unit) : ℕ := match g.2 with
  | .reg _ => 1
  | .dma q => if 35 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c s : Dev nD) (u : Unit) : lv (recvCell c s) u = 2 := by
  have := dev_lt s
  exact if_pos (by rw [dsem_val (by omega)]; omega)

omit [FloatOps F] in
/-- The staging waits: at launch, owing everything, and at the end, owing nothing. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]
        exact (if_neg (show ¬ 35 ≤ q.val by omega) : (if 35 ≤ q.val then 2 else 0) = 0).le)
      (fun g u hg => by
        rcases O₀_pos hg with ⟨d, rfl⟩ | ⟨d, rfl⟩
        · rw [lv_bar]; decide
        · rw [lv_recv]; decide)
  · rw [MayWait_zero]; iintro -; iempintro

omit [FloatOps F] in
/-- At its barrier wait a device owes receive credits only, to cells above its barrier cell. -/
theorem mayWait_bar (c : Dev nD) : (levAts L lv : sProp 𝕄) ⊢ MayWait (c : Thread nD τ) (.reg barS) () (oweRecv c 1) :=
  MayOwe.of_cut (L := L) (lev := lv) 1 (fun p hp => by rw [Finset.mem_singleton.mp hp, L_tc]; exact Finset.mem_singleton_self _)
    (fun g u hg => by obtain ⟨d, rfl⟩ := oweRecv_pos hg; exact Finset.mem_singleton_self _)
    (fun p hp => by rw [Finset.mem_singleton.mp hp]; exact le_rfl)
    (fun g u hg => by obtain ⟨d, rfl⟩ := oweRecv_pos hg; rw [lv_recv]; decide)

end Cert.AllToAll

end
-- ==== Proof.Steps.lean ====
/- One step of the body at a time: a signal, the barrier wait, a copy, a wait for a block, a wait for a copy to have
   left. Each step takes the state before it to the state after it, whatever follows. -/
module

public import proofs.«01_k».proof.Proof.Schedule
public import Idealize.SL.BI.BigOpNat

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows throughout -/

variable (Kb : Dev nD → ℕ) (Kd : Dev nD × Fin 64 → ℕ)

/-- The invariants of all the cells, that every cell has reached its round, and the levels of the waits. -/
def known : sProp 𝕄 :=
  iprop((bigSep Finset.univ fun c : Dev nD => cellInv ER (sched m ρ) (Kb c) (barCell c))
    ∗ (bigSep Finset.univ fun c : Dev nD => reached ER (barCell c) 0)
    ∗ (bigSep Finset.univ fun ci : Dev nD × Fin 64 => cellInv ER (sched m ρ) (Kd ci) (dmaCell ci.1 ci.2.val))
    ∗ (bigSep Finset.univ fun ci : Dev nD × Fin 64 => reached ER (dmaCell ci.1 ci.2.val) 0)
    ∗ levAts L lv)

instance known_persistent : BI.Persistent (known m ρ Kb Kd) := by unfold known; infer_instance

omit [FloatOps F] in
theorem one_of {I : Type} [DecidableEq I] {S : Finset I} {i : I} (h : i ∈ S) {Φ : I → sProp 𝕄} : (bigSep S Φ : sProp 𝕄) ⊢ Φ i := bigSep_elim h

theorem known_bar (c : Dev nD) : known m ρ Kb Kd ⊢ cellInv ER (sched m ρ) (Kb c) (barCell c) := by
  unfold known
  iintro ⟨H, -⟩
  iapply (one_of (Φ := fun c : Dev nD => cellInv ER (sched m ρ) (Kb c) (barCell c)) (Finset.mem_univ c)); iexact H
theorem known_bar_reached (c : Dev nD) : known m ρ Kb Kd ⊢ reached ER (barCell c) 0 := by
  unfold known
  iintro ⟨-, H, -⟩
  iapply (one_of (Φ := fun c : Dev nD => (reached ER (barCell c) 0 : sProp 𝕄)) (Finset.mem_univ c)); iexact H
theorem known_dma (c : Dev nD) {i : ℕ} (hi : i < 64) : known m ρ Kb Kd ⊢ cellInv ER (sched m ρ) (Kd (c, ⟨i, hi⟩)) (dmaCell c i) := by
  unfold known
  iintro ⟨-, -, H, -⟩
  iapply (one_of (Φ := fun ci : Dev nD × Fin 64 => cellInv ER (sched m ρ) (Kd ci) (dmaCell ci.1 ci.2.val)) (Finset.mem_univ (c, (⟨i, hi⟩ : Fin 64)))); iexact H
theorem known_dma_reached (c : Dev nD) {i : ℕ} (hi : i < 64) : known m ρ Kb Kd ⊢ reached ER (dmaCell c i) 0 := by
  unfold known
  iintro ⟨-, -, -, H, -⟩
  iapply (one_of (Φ := fun ci : Dev nD × Fin 64 => (reached ER (dmaCell ci.1 ci.2.val) 0 : sProp 𝕄)) (Finset.mem_univ (c, (⟨i, hi⟩ : Fin 64)))); iexact H
theorem known_lev : known m ρ Kb Kd ⊢ levAts L lv := by
  unfold known
  iintro ⟨-, -, -, -, H⟩
  iexact H

set_option maxRecDepth 100000 in
theorem known_wait_of {X : sProp 𝕄} (h : levAts L lv ⊢ X) : known m ρ Kb Kd ⊢ X :=
  (known_lev m ρ Kb Kd).trans h

/-! ## The states -/

/-- Device `c` owes `O`, whatever it has waited on. -/
def owing (c : Dev nD) (O : CellTallies nD τ sig Unit) : sProp 𝕄 := iprop(∃ W, owes (c : Thread nD τ) O W)

/-- Before the signal to the device `k` places ahead: the units still owed, and for each device still to signal the
    token of the duty and its slot of `c`'s gather buffer. -/
def sigSt (c : Dev nD) (k : ℕ) : sProp 𝕄 :=
  iprop(owing c (oweRecv c 1 + oweBar c k)
    ∗ bigSep (Finset.Ico k 32) fun j => iprop(dutyTok ER (barCell (fwd c j)) 0 c ∗ ∃ f, slotPts c (fwd c j) f))

/-- What the copy to the device `j` places ahead needs: the tokens of its two duties, the rows, and slot `c` there. -/
def copyRes (c : Dev nD) (j : ℕ) : sProp 𝕄 :=
  iprop(dutyTok ER (sendCell c j) 0 dd ∗ dutyTok ER (recvCell (fwd c j) c) 0 dd ∗ rowsPts m ρ c (fwd c j) ∗ ∃ f, slotPts (fwd c j) c f)

/-- Before the copy to the device `k` places ahead: what it and the later ones need, and the credit of the earlier ones. -/
def sendSt (c : Dev nD) (k : ℕ) : sProp 𝕄 :=
  iprop(owing c (oweRecv c k)
    ∗ (bigSep (Finset.Ico k 32) fun j => copyRes m ρ c j)
    ∗ bigSep (Finset.Ico 1 k) fun j => cred (tallyAt (sendCell c j) () N))

/-- Before the wait for the block of the device `k` places behind: the cells still to wait on, the slots arrived. -/
def recvSt (c : Dev nD) (k : ℕ) : sProp 𝕄 :=
  iprop(owing c 0
    ∗ (bigSep (Finset.Ico k 32) fun j => iprop(cred (tallyAt (recvCell c (bwd c j)) () N) ∗ atPos ER (recvCell c (bwd c j)) 0 ∅ 0))
    ∗ bigSep (Finset.Ico 1 k) fun j => iprop(atPos ER (recvCell c (bwd c j)) 1 ∅ 0 ∗ slotPts c (bwd c j) (gath m ρ c)))

/-- Before the wait for the copy to the device `k` places ahead to have left: the cells still to wait on, the rows back. -/
def leftSt (c : Dev nD) (k : ℕ) : sProp 𝕄 :=
  iprop(owing c 0
    ∗ (bigSep (Finset.Ico k 32) fun j => iprop(cred (tallyAt (sendCell c j) () N) ∗ atPos ER (sendCell c j) 0 ∅ 0))
    ∗ bigSep (Finset.Ico 1 k) fun j => iprop(atPos ER (sendCell c j) 1 ∅ 0 ∗ rowsPts m ρ c (fwd c j)))

/-! ## The steps -/

variable {α : Type} {kont : PUnit → Prog (TpuEff nD τ sig (Elt F) Λ₀ .tc) α}

/-- The execution of `p` on device `c` ends in `Q`. -/
abbrev runs (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A signal to the device `k` places ahead hands it its slot of this device's gather buffer. -/
theorem step_signal (c n : Dev nD) {k : ℕ} (h0 : 1 ≤ k) (hk : k < 32) (hn : n = fwd c k) {a : ℤ} (ha : a = ((1 : ℕ) : ℤ)) (R : sProp 𝕄)
    {Q : α → sProp 𝕄} (h : iprop(known m ρ Kb Kd ∗ sigSt c (k + 1) ∗ R) ⊢ runs c (kont ⟨⟩) Q) :
    iprop(known m ρ Kb Kd ∗ sigSt c k ∗ R) ⊢ runs c (.op (.semSignal (n : Thread nD τ) barS a) kont) Q := by
  subst hn ha
  have hne : c ≠ fwd c k := (fwd_ne c h0 hk).symm
  unfold sigSt owing
  iintro ⟨#HK, ⟨⟨%W, HO⟩, Hres⟩, HR⟩
  ihave Hres := (Entails.of_eq (bigSep_Ico_succ_bot hk _)) $$ Hres
  icases Hres with ⟨⟨Htok, Hslot⟩, Hres⟩
  iapply (Rounds.wp_signal 𝒱₀ ER (sched m ρ) (c : Thread nD τ) none (dst := (fwd c k : Thread nD τ)) (sem := barS) (κ := Kb (fwd c k)) (r := 0)
      (d := c) (k' := 1) (O₀ := oweRecv c 1 + oweBar c k) (by rw [duties_bar]; exact Finset.mem_erase.mpr ⟨hne, Finset.mem_univ _⟩) (amount_bar m ρ (fwd c k) c) ()
      (oweRecv c 1 + oweBar c (k + 1)) (by rw [oweBar_step c hk, add_assoc])) $$ [HO Htok Hslot]
  · isplitr; · iapply (known_bar m ρ Kb Kd (fwd c k)); iexact HK
    isplitl [HO]; · iexact HO
    isplitl [Htok]; · iexact Htok
    isplitl [Hslot]; · rw [payload_bar]; iexact Hslot
    iapply (known_bar_reached m ρ Kb Kd (fwd c k)); iexact HK
  iintro HO
  iapply h
  isplitr; · iexact HK
  unfold sigSt owing
  isplitl [HO Hres]
  · isplitl [HO]; · iexists W; iexact HO
    iexact Hres
  iexact HR

/-- The wait for all the other devices' signals: they hand over slot `c` of every other device's gather buffer. -/
theorem step_barrier (c : Dev nD) {a : ℤ} (ha : a = ((31 : ℕ) : ℤ)) (R : sProp 𝕄)
    {Q : α → sProp 𝕄} (h : iprop(known m ρ Kb Kd ∗ (owing c (oweRecv c 1) ∗ atPos ER (barCell c) 1 ∅ 0 ∗ bigSep (Finset.Ico 1 32) fun k => iprop(∃ f, slotPts (F := F) (fwd c k) c f)) ∗ R)
      ⊢ runs c (kont ⟨⟩) Q) :
    iprop(known m ρ Kb Kd ∗ (sigSt c 32 ∗ cred (tallyAt (barCell c) () 31) ∗ atPos ER (barCell c) 0 ∅ 0) ∗ R)
      ⊢ runs c (.op (.semWait barS a) kont) Q := by
  subst ha
  unfold sigSt owing
  rw [oweBar_end, add_zero]
  iintro ⟨#HK, ⟨⟨⟨%W, HO⟩, -⟩, Hcr, Hat⟩, HR⟩
  iapply (Rounds.wp_wait_rest_token 𝒱₀ ER (sched m ρ) (c : Thread nD τ) none (κ := Kb c)
      (wpE_semWait_eq 𝒱₀ (c : Thread nD τ) none Set.univ) (Set.mem_univ _) () (O := oweRecv c 1) (W := W) (R := 0) (m := 0) (T := ∅)
      (by rw [expect_bar])) $$ [Hcr HO Hat]
  · isplitr; · iapply (known_bar m ρ Kb Kd c); iexact HK
    isplitl [Hcr]; · iexact Hcr
    isplitl [HO]; · iexact HO
    isplitr; · iapply (known_wait_of m ρ Kb Kd (mayWait_bar c)); iexact HK
    iexact Hat
  iintro ⟨HO, Hat, -, Hpay⟩
  ihave Hpay := (Entails.of_eq (rest_bar m ρ c)) $$ Hpay
  iapply h
  isplitr; · iexact HK
  isplitl [HO Hat Hpay]
  · unfold owing
    isplitl [HO]; · iexists _; iexact HO
    isplitl [Hat]; · iexact Hat
    iexact Hpay
  iexact HR

/-- A copy to the device `k` places ahead fills its slot `c` with the rows it gathers from here. -/
theorem step_send (c n : Dev nD) {k : ℕ} (h0 : 1 ≤ k) (hk : k < 32) (hn : n = fwd c k)
    {src : Memref sig .tc .vmem S64x64 .f32} (hsrc' : src = rowsM (fwd c k)) {dst : Memref sig .tc .vmem S64x64 .f32} (hdst' : dst = slotM c)
    {sS sR : DmaSem sig} (hsS : sS = sendS k) (hsR : sR = recvS c)
    {hsc : dst.view.ref.isScScratch = false} {hsrc : src.view.WordExact} {hdst : dst.view.WordExact}
    {hsem : DmaTarget.Typed .vmem (.dma sR) (.remote (Dev.tc n : Thread nD τ) dst (.dma sS) hsc)} (R : sProp 𝕄)
    {Q : α → sProp 𝕄} (h : iprop(known m ρ Kb Kd ∗ sendSt m ρ c (k + 1) ∗ R) ⊢ runs c (kont ⟨⟩) Q) :
    iprop(known m ρ Kb Kd ∗ sendSt m ρ c k ∗ R)
      ⊢ runs c (.op (.enqueueDma src (.remote (Dev.tc n : Thread nD τ) dst (.dma sS) hsc) (.dma sR) hsrc hdst hsem) kont) Q := by
  subst hn hsrc' hdst' hsS hsR
  have hne : c ≠ fwd c k := (fwd_ne c h0 hk).symm
  have hc := dev_lt c
  have hk64 : k < 64 := by omega
  have hc64 : 32 + c.val < 64 := by omega
  unfold sendSt owing
  iintro ⟨#HK, ⟨⟨%W, HO⟩, Hres, Hcr⟩, HR⟩
  ihave Hres := (Entails.of_eq (bigSep_Ico_succ_bot hk _)) $$ Hres
  unfold copyRes
  icases Hres with ⟨⟨HtS, HtR, Hrows, ⟨%fd, Hslot⟩⟩, Hres⟩
  unfold rowsPts slotPts
  iapply (Rounds.wp_send_pointsTo 𝒱₀ ER (sched m ρ) (c : Thread nD τ) none (c' := (fwd c k : Thread nD τ)) (src := rowsM (fwd c k)) (dst := slotM c)
      (sS := .dma (sendS k)) (sem := .dma (recvS c))
      (κ₁ := Kd (c, ⟨k, hk64⟩)) (κ₂ := Kd (fwd c k, ⟨32 + c.val, hc64⟩))
      (r₁ := 0) (r₂ := 0) (d₁ := dd) (d₂ := dd) (fs := xstg m ρ c) (fd := fd)
      (by rw [duties_send m ρ c h0 hk]; exact Finset.mem_singleton_self _) (by rw [duties_recv m ρ (fwd c k) hne]; exact Finset.mem_singleton_self _)
      () () N rfl (amount_dma m ρ c k dd) (amount_dma m ρ (fwd c k) (32 + c.val) dd) (oweRecv c (k + 1)) (oweRecv_step c hk) (W := W)
      (by rw [payload_send m ρ c hk]; exact BI.Entails.refl _)
      (by
        rw [payload_recv]
        unfold slotPts
        exact Entails.of_eq (pointsTo_congr fun i hi => landed m ρ (fwd c k) c fd i hi))) $$ [HO HtS HtR Hrows Hslot]
  · isplitr; · iapply (known_dma m ρ Kb Kd c (i := k) hk64); iexact HK
    isplitr; · iapply (known_dma m ρ Kb Kd (fwd c k) (i := 32 + c.val) hc64); iexact HK
    isplitl [Hrows]; · iexact Hrows
    isplitl [Hslot]; · iexact Hslot
    isplitl [HO]; · iexact HO
    isplitl [HtS]; · iexact HtS
    isplitr; · iapply (known_dma_reached m ρ Kb Kd c (i := k) hk64); iexact HK
    isplitl [HtR]; · iexact HtR
    iapply (known_dma_reached m ρ Kb Kd (fwd c k) (i := 32 + c.val) hc64); iexact HK
  iintro ⟨HcS, HO⟩
  iapply h
  isplitr; · iexact HK
  unfold sendSt owing
  rw [bigSep_Ico_succ_top h0]
  isplitl [HO Hres Hcr HcS]
  · isplitl [HO]; · iexists W; iexact HO
    isplitl [Hres]; · unfold copyRes rowsPts slotPts; iexact Hres
    isplitl [HcS]; · iexact HcS
    iexact Hcr
  iexact HR

/-- The wait for the block of the device `k` places behind: its slot has arrived. -/
theorem step_recv (c : Dev nD) {k : ℕ} (h0 : 1 ≤ k) (hk : k < 32)
    {src : Memref sig .tc .vmem S64x64 .f32} {dst : Memref sig .tc .vmem S64x64 .f32} (hdst' : dst = slotM (bwd c k))
    {sR : DmaSem sig} (hsR : sR = recvS (bwd c k))
    {hsrc : src.view.WordExact} {hdst : dst.view.WordExact} (R : sProp 𝕄)
    {Q : α → sProp 𝕄} (h : iprop(known m ρ Kb Kd ∗ recvSt m ρ c (k + 1) ∗ R) ⊢ runs c (kont ⟨⟩) Q) :
    iprop(known m ρ Kb Kd ∗ recvSt m ρ c k ∗ R) ⊢ runs c (.op (.waitDma2 sR src dst hsrc hdst) kont) Q := by
  subst hdst' hsR
  have hne : bwd c k ≠ c := bwd_ne c h0 hk
  have hc := dev_lt (bwd c k)
  have hc64 : 32 + (bwd c k).val < 64 := by omega
  unfold recvSt owing
  iintro ⟨#HK, ⟨⟨%W, HO⟩, Hres, Hdone⟩, HR⟩
  ihave Hres := (Entails.of_eq (bigSep_Ico_succ_bot hk _)) $$ Hres
  icases Hres with ⟨⟨Hcr, Hat⟩, Hres⟩
  iapply (Rounds.wp_wait_rest_token 𝒱₀ ER (sched m ρ) (c : Thread nD τ) none (κ := Kd (c, ⟨32 + (bwd c k).val, hc64⟩))
      (wpE_waitDma2_eq 𝒱₀ (c : Thread nD τ) none Set.univ) (Set.mem_univ _) () (O := 0) (W := W) (R := 0) (m := 0) (T := ∅)
      (by rw [Nat.zero_add, expect_recv m ρ c hne])) $$ [Hcr HO Hat]
  · isplitr; · iapply (known_dma m ρ Kb Kd c (i := 32 + (bwd c k).val) hc64); iexact HK
    isplitl [Hcr]; · iexact Hcr
    isplitl [HO]; · iexact HO
    isplitr; · rw [MayWait_zero]; iempintro
    iexact Hat
  iintro ⟨HO, Hat, -, Hpay⟩
  ihave Hpay := (Entails.of_eq (rest_recv m ρ c hne)) $$ Hpay
  iapply h
  isplitr; · iexact HK
  unfold recvSt owing
  rw [bigSep_Ico_succ_top h0]
  isplitl [HO Hres Hdone Hat Hpay]
  · isplitl [HO]; · iexists _; iexact HO
    isplitl [Hres]; · iexact Hres
    isplitl [Hat Hpay]
    · isplitl [Hat]; · iexact Hat
      iexact Hpay
    iexact Hdone
  iexact HR

/-- The wait for the copy to the device `k` places ahead to have left: its rows are back. -/
theorem step_left (c : Dev nD) {k : ℕ} (h0 : 1 ≤ k) (hk : k < 32)
    {src : Memref sig .tc .vmem S64x64 .f32} {dst : Memref sig .tc .vmem S64x64 .f32} (hdst' : dst = rowsM (fwd c k))
    {sS : DmaSem sig} (hsS : sS = sendS k)
    {hsrc : src.view.WordExact} {hdst : dst.view.WordExact} (R : sProp 𝕄)
    {Q : α → sProp 𝕄} (h : iprop(known m ρ Kb Kd ∗ leftSt m ρ c (k + 1) ∗ R) ⊢ runs c (kont ⟨⟩) Q) :
    iprop(known m ρ Kb Kd ∗ leftSt m ρ c k ∗ R) ⊢ runs c (.op (.waitDma2 sS src dst hsrc hdst) kont) Q := by
  subst hdst' hsS
  have hk64 : k < 64 := by omega
  unfold leftSt owing
  iintro ⟨#HK, ⟨⟨%W, HO⟩, Hres, Hdone⟩, HR⟩
  ihave Hres := (Entails.of_eq (bigSep_Ico_succ_bot hk _)) $$ Hres
  icases Hres with ⟨⟨Hcr, Hat⟩, Hres⟩
  iapply (Rounds.wp_wait_rest_token 𝒱₀ ER (sched m ρ) (c : Thread nD τ) none (κ := Kd (c, ⟨k, hk64⟩))
      (wpE_waitDma2_eq 𝒱₀ (c : Thread nD τ) none Set.univ) (Set.mem_univ _) () (O := 0) (W := W) (R := 0) (m := 0) (T := ∅)
      (by rw [Nat.zero_add, expect_send m ρ c h0 hk])) $$ [Hcr HO Hat]
  · isplitr; · iapply (known_dma m ρ Kb Kd c (i := k) hk64); iexact HK
    isplitl [Hcr]; · iexact Hcr
    isplitl [HO]; · iexact HO
    isplitr; · rw [MayWait_zero]; iempintro
    iexact Hat
  iintro ⟨HO, Hat, -, Hpay⟩
  ihave Hpay := (Entails.of_eq (rest_send m ρ c h0 hk)) $$ Hpay
  iapply h
  isplitr; · iexact HK
  unfold leftSt owing
  rw [bigSep_Ico_succ_top h0]
  isplitl [HO Hres Hdone Hat Hpay]
  · isplitl [HO]; · iexists _; iexact HO
    isplitl [Hres]; · iexact Hres
    isplitl [Hat Hpay]
    · isplitl [Hat]; · iexact Hat
      iexact Hpay
    iexact Hdone
  iexact HR

end Cert.AllToAll

end
-- ==== Proof.Regroup.lean ====
/- How a device's resources are dealt to the phases of its body, and put together again at the end. -/
module

public import proofs.«01_k».proof.Proof.Steps

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Kb : Dev nD → ℕ) (Kd : Dev nD × Fin 64 → ℕ)

/-! ## Families over the devices and the semaphores -/

omit [FloatOps F] in
/-- A family over the devices is its member at `c` and those at the devices after `c`; -/
theorem ahead_split (c : Dev nD) (Φ : Dev nD → sProp 𝕄) :
    (bigSep Finset.univ Φ : sProp 𝕄) = iprop(Φ c ∗ bigSep (Finset.Ico 1 32) fun j => Φ (fwd c j)) := by
  rw [bigSep_erase (Finset.mem_univ c), ← image_fwd, bigSep_image_of_injOn (fwd_inj c)]; rfl
omit [FloatOps F] in
/-- or before it. -/
theorem behind_split (c : Dev nD) (Φ : Dev nD → sProp 𝕄) :
    (bigSep Finset.univ Φ : sProp 𝕄) = iprop(Φ c ∗ bigSep (Finset.Ico 1 32) fun j => Φ (bwd c j)) := by
  rw [bigSep_erase (Finset.mem_univ c), ← image_bwd, bigSep_image_of_injOn (bwd_inj c)]; rfl

/-- The 64 semaphores of the copies: the two idle ones, those sent on, those received on. -/
theorem dma_indices (c : Dev nD) :
    ((Finset.univ : Finset (Fin 64)).map Fin.valEmbedding) = insert 0 (insert (32 + c.val) (Finset.Ico 1 32 ∪ (Finset.univ.erase c).image fun s : Dev nD => 32 + s.val)) := by
  ext i
  have hc := dev_lt c
  simp only [Finset.mem_map, Finset.mem_univ, true_and, Fin.valEmbedding_apply, Finset.mem_insert, Finset.mem_union, Finset.mem_Ico, Finset.mem_image,
    Finset.mem_erase, _root_.and_true]
  constructor
  · rintro ⟨a, rfl⟩
    have ha : a.val < 64 := a.isLt
    by_cases h0 : a.val = 0
    · exact Or.inl h0
    by_cases h1 : a.val = 32 + c.val
    · exact Or.inr (Or.inl h1)
    by_cases h2 : a.val < 32
    · exact Or.inr (Or.inr (Or.inl ⟨by omega, h2⟩))
    · exact Or.inr (Or.inr (Or.inr ⟨(⟨a.val - 32, by show _ < 32; omega⟩ : Dev nD), fun h => h1 (by have := congrArg Fin.val h; simp only at this; omega), by
        show 32 + (a.val - 32) = a.val; omega⟩))
  · rintro (rfl | rfl | h | ⟨s, -, rfl⟩)
    · exact ⟨⟨0, by decide⟩, rfl⟩
    · exact ⟨⟨32 + c.val, by omega⟩, rfl⟩
    · exact ⟨⟨i, by omega⟩, rfl⟩
    · have := dev_lt s
      exact ⟨⟨32 + s.val, by omega⟩, rfl⟩

omit [FloatOps F] in
theorem dma_split (c : Dev nD) (Φ : ℕ → sProp 𝕄) :
    (bigSep Finset.univ fun i : Fin 64 => Φ i.val : sProp 𝕄)
      = iprop(Φ 0 ∗ Φ (32 + c.val) ∗ (bigSep (Finset.Ico 1 32) Φ) ∗ bigSep (Finset.Ico 1 32) fun j => Φ (32 + (bwd c j).val)) := by
  have hc := dev_lt c
  have h1 : (bigSep Finset.univ fun i : Fin 64 => Φ i.val : sProp 𝕄) = bigSep ((Finset.univ : Finset (Fin 64)).map Fin.valEmbedding) Φ := by rw [bigSep_map]; rfl
  have hinj : Set.InjOn (fun s : Dev nD => 32 + s.val) (Finset.univ.erase c : Finset (Dev nD)) := fun a _ b _ h => Fin.ext (by simp only at h; omega)
  have hdis : Disjoint (Finset.Ico 1 32) ((Finset.univ.erase c).image fun s : Dev nD => 32 + s.val) := by
    rw [Finset.disjoint_left]
    intro i hi hi'
    obtain ⟨s, -, rfl⟩ := Finset.mem_image.mp hi'
    have := (Finset.mem_Ico.mp hi).2
    omega
  rw [h1, dma_indices c, bigSep_insert, bigSep_insert, bigSep_union hdis, bigSep_image_of_injOn hinj, ← image_bwd, bigSep_image_of_injOn (bwd_inj c)]
  · rfl
  · simp only [Finset.mem_union, Finset.mem_Ico, Finset.mem_image, Finset.mem_erase, Finset.mem_univ, _root_.and_true, not_or, not_exists, not_and]
    exact ⟨by omega, fun s hs h => hs (Fin.ext (by omega))⟩
  · simp only [Finset.mem_insert, Finset.mem_union, Finset.mem_Ico, Finset.mem_image, Finset.mem_erase, Finset.mem_univ, _root_.and_true, not_or, not_exists, not_and]
    exact ⟨by omega, by omega, fun s hs h => by omega⟩

omit [FloatOps F] in
theorem mono_of {I : Type} {S : Finset I} {Φ Ψ : I → sProp 𝕄} (h : ∀ i ∈ S, Φ i ⊢ Ψ i) : (bigSep S Φ : sProp 𝕄) ⊢ bigSep S Ψ := bigSep_mono h
omit [FloatOps F] in
theorem sep_of {I : Type} (S : Finset I) (Φ Ψ : I → sProp 𝕄) : (bigSep S fun i => iprop(Φ i ∗ Ψ i)) = iprop(bigSep S Φ ∗ bigSep S Ψ) := bigSep_sep' S Φ Ψ
omit [FloatOps F] in
theorem some_slot (d s : Dev nD) (X : sProp 𝕄) (f : S32x64x64.Idx → Elt F .f32) : iprop(X ∗ slotPts d s f) ⊢ iprop(X ∗ ∃ f, slotPts d s f) := by
  iintro ⟨H1, H2⟩
  isplitl [H1]; · iexact H1
  iexists f; iexact H2

/-! ## What a device starts from -/

/-- Its positions at its 65 cells; -/
def positions (c : Dev nD) : sProp 𝕄 :=
  iprop(atPos ER (barCell c) 0 ∅ 0 ∗ bigSep Finset.univ fun i : Fin 64 => atPos ER (dmaCell c i.val) 0 ∅ 0)
/-- the tokens of the duties it pays: for each other device its signal, its copy's leaving, its copy's arrival; -/
def payToks (c : Dev nD) : sProp 𝕄 :=
  bigSep (Finset.Ico 1 32) fun j => iprop(dutyTok ER (barCell (fwd c j)) 0 c ∗ dutyTok ER (sendCell c j) 0 dd ∗ dutyTok ER (recvCell (fwd c j) c) 0 dd)
/-- the credits of the raises it waits for: the 31 signals, the 31 blocks. -/
def creds (c : Dev nD) : sProp 𝕄 :=
  iprop(cred (tallyAt (barCell c) () 31) ∗ bigSep (Finset.Ico 1 32) fun j => cred (tallyAt (recvCell c (bwd c j)) () N))

def xPts (c : Dev nD) : sProp 𝕄 := iprop(((c : Thread nD τ).loc cc0_stg0_0) ↦{fullShare} xstg m ρ c)
def gPts (c : Dev nD) (f : S32x64x64.Idx → Elt F .f32) : sProp 𝕄 := iprop(((c : Thread nD τ).loc cc0_scratch0) ↦{fullShare} f)

/-- The staged weights and the staging buffer of the result. -/
def ioPts (c : Dev nD) : sProp 𝕄 :=
  iprop((((c : Thread nD τ).loc cc0_stg1_0) ↦{fullShare} wstg m ρ c) ∗ ∃ f, ((c : Thread nD τ).loc cc0_stg2_0) ↦{fullShare} f)

/-! ## What each phase is dealt -/

/-- The barrier wait's credit and position. -/
def barSt (c : Dev nD) : sProp 𝕄 := iprop(cred (tallyAt (barCell c) () 31) ∗ atPos ER (barCell c) 0 ∅ 0)
/-- The device's own block of rows and its own slot. -/
def ownSt (c : Dev nD) : sProp 𝕄 := iprop(rowsPts m ρ c c ∗ ∃ f, slotPts c c f)
def ownDone (c : Dev nD) : sProp 𝕄 := iprop(rowsPts m ρ c c ∗ slotPts c c (gath m ρ c))
/-- The copies' tokens and rows. -/
def sendRes (c : Dev nD) : sProp 𝕄 :=
  bigSep (Finset.Ico 1 32) fun j => iprop((dutyTok ER (sendCell c j) 0 dd ∗ dutyTok ER (recvCell (fwd c j) c) 0 dd) ∗ rowsPts m ρ c (fwd c j))
/-- The cells received on. -/
def recvRes (c : Dev nD) : sProp 𝕄 :=
  bigSep (Finset.Ico 1 32) fun j => iprop(cred (tallyAt (recvCell c (bwd c j)) () N) ∗ atPos ER (recvCell c (bwd c j)) 0 ∅ 0)
/-- The cells sent on. -/
def leftRes (c : Dev nD) : sProp 𝕄 := bigSep (Finset.Ico 1 32) fun j => atPos ER (sendCell c j) 0 ∅ 0
/-- What only the end needs: the two cells of no copy, the weights and the result's buffer. -/
def idleSt (c : Dev nD) : sProp 𝕄 := iprop(atPos ER (dmaCell c 0) 0 ∅ 0 ∗ atPos ER (dmaCell c (32 + c.val)) 0 ∅ 0 ∗ ioPts m ρ c)

/-- All of it. -/
def restSt (c : Dev nD) : sProp 𝕄 := iprop(ownSt m ρ c ∗ sendRes m ρ c ∗ recvRes c ∗ leftRes c ∗ idleSt m ρ c)

/-- The start is dealt to the phases. -/
theorem deal (c : Dev nD) :
    iprop(known m ρ Kb Kd ∗ positions c ∗ payToks c ∗ creds c ∗ owing c (O₀ c) ∗ xPts m ρ c ∗ (∃ f, gPts c f) ∗ ioPts m ρ c)
      ⊢ iprop(known m ρ Kb Kd ∗ sigSt c 1 ∗ barSt c ∗ restSt m ρ c) := by
  unfold positions payToks creds xPts gPts
  iintro ⟨HK, ⟨HaB, HaD⟩, Htok, ⟨HcB, HcR⟩, HO, Hx, ⟨%f, Hg⟩, Hio⟩
  ihave HaD := (Entails.of_eq (dma_split c fun i => (atPos ER (dmaCell c i) 0 ∅ 0 : sProp 𝕄))) $$ HaD
  icases HaD with ⟨Ha0, Hac, HaS, HaR⟩
  ihave Hx := (Entails.of_eq ((rows_split m ρ c).trans (ahead_split c fun t => rowsPts m ρ c t))) $$ Hx
  icases Hx with ⟨Hxc, Hx⟩
  ihave Hg := (Entails.of_eq ((slots_split c f).trans (ahead_split c fun t => slotPts c t f))) $$ Hg
  icases Hg with ⟨Hgc, Hg⟩
  ihave Htok := (Entails.of_eq (bigSep_sep' _ _ _)) $$ Htok
  icases Htok with ⟨HtB, HtS⟩
  isplitl [HK]; · iexact HK
  unfold sigSt
  isplitl [HO HtB Hg]
  · isplitl [HO]; · unfold O₀; iexact HO
    ihave H := (Entails.of_eq (bigSep_sep' (Finset.Ico 1 32) (fun j => (dutyTok ER (barCell (fwd c j)) 0 c : sProp 𝕄)) (fun j => slotPts c (fwd c j) f)).symm) $$ [HtB Hg]
    · isplitl [HtB]; · iexact HtB
      iexact Hg
    iapply (mono_of (Φ := fun j => iprop(dutyTok ER (barCell (fwd c j)) 0 c ∗ slotPts c (fwd c j) f)) fun j _ => some_slot c (fwd c j) _ f)
    iexact H
  unfold barSt
  isplitl [HcB HaB]
  · isplitl [HcB]; · iexact HcB
    iexact HaB
  unfold restSt ownSt sendRes recvRes leftRes idleSt
  isplitl [Hxc Hgc]
  · isplitl [Hxc]; · iexact Hxc
    iexists f; iexact Hgc
  isplitl [HtS Hx]
  · rw [sep_of (Finset.Ico 1 32) (fun j => iprop(dutyTok ER (sendCell c j) 0 dd ∗ dutyTok ER (recvCell (fwd c j) c) 0 dd)) (fun j => rowsPts m ρ c (fwd c j))]
    isplitl [HtS]; · iexact HtS
    iexact Hx
  isplitl [HcR HaR]
  · rw [bigSep_sep']
    isplitl [HcR]; · iexact HcR
    iexact HaR
  isplitl [HaS]; · iexact HaS
  isplitl [Ha0]; · iexact Ha0
  isplitl [Hac]; · iexact Hac
  iexact Hio

/-! ## Between the phases -/

/-- To the barrier wait. -/
theorem to_barrier (c : Dev nD) :
    iprop(known m ρ Kb Kd ∗ sigSt c 32 ∗ barSt c ∗ restSt m ρ c)
      ⊢ iprop(known m ρ Kb Kd ∗ (sigSt c 32 ∗ cred (tallyAt (barCell c) () 31) ∗ atPos ER (barCell c) 0 ∅ 0) ∗ restSt m ρ c) := by
  unfold barSt
  iintro ⟨HK, H1, H2, H3⟩
  isplitl [HK]; · iexact HK
  isplitl [H1 H2]
  · isplitl [H1]; · iexact H1
    iexact H2
  iexact H3

/-- After the barrier wait, to the copy of the device's own block. -/
theorem to_own (c : Dev nD) :
    iprop(known m ρ Kb Kd ∗ (owing c (oweRecv c 1) ∗ atPos ER (barCell c) 1 ∅ 0 ∗ bigSep (Finset.Ico 1 32) fun k => iprop(∃ f, slotPts (F := F) (fwd c k) c f)) ∗ restSt m ρ c)
      ⊢ iprop(known m ρ Kb Kd ∗ ownSt m ρ c ∗ (sendSt m ρ c 1 ∗ atPos ER (barCell c) 1 ∅ 0 ∗ recvRes c ∗ leftRes c ∗ idleSt m ρ c)) := by
  unfold restSt sendSt sendRes
  rw [bigSep_sep', Finset.Ico_self, bigSep_empty]
  iintro ⟨HK, ⟨HO, HaB, Hsl⟩, Hown, ⟨Htok, Hx⟩, HR, HL, HI⟩
  isplitl [HK]; · iexact HK
  isplitl [Hown]; · iexact Hown
  isplitl [HO Hsl Htok Hx]
  · isplitl [HO]; · iexact HO
    isplitl
    · ihave Htok := (Entails.of_eq (bigSep_sep' _ _ _)) $$ Htok
      icases Htok with ⟨H1, H2⟩
      unfold copyRes
      rw [bigSep_sep', bigSep_sep', bigSep_sep']
      isplitl [H1]; · iexact H1
      isplitl [H2]; · iexact H2
      isplitl [Hx]; · iexact Hx
      iexact Hsl
    · iempintro
  isplitl [HaB]; · iexact HaB
  isplitl [HR]; · iexact HR
  isplitl [HL]; · iexact HL
  iexact HI

/-- To the copies. -/
theorem to_send (c : Dev nD) :
    iprop(known m ρ Kb Kd ∗ ownDone m ρ c ∗ (sendSt m ρ c 1 ∗ atPos ER (barCell c) 1 ∅ 0 ∗ recvRes c ∗ leftRes c ∗ idleSt m ρ c))
      ⊢ iprop(known m ρ Kb Kd ∗ sendSt m ρ c 1 ∗ (ownDone m ρ c ∗ atPos ER (barCell c) 1 ∅ 0 ∗ recvRes c ∗ leftRes c ∗ idleSt m ρ c)) := by
  iintro ⟨HK, H1, H2, H3⟩
  isplitl [HK]; · iexact HK
  isplitl [H2]; · iexact H2
  isplitl [H1]; · iexact H1
  iexact H3

/-- To the waits for the blocks. -/
theorem to_recv (c : Dev nD) :
    iprop(known m ρ Kb Kd ∗ sendSt m ρ c 32 ∗ (ownDone m ρ c ∗ atPos ER (barCell c) 1 ∅ 0 ∗ recvRes c ∗ leftRes c ∗ idleSt m ρ c))
      ⊢ iprop(known m ρ Kb Kd ∗ recvSt m ρ c 1 ∗ ((bigSep (Finset.Ico 1 32) fun j => iprop(cred (tallyAt (sendCell c j) () N) ∗ atPos ER (sendCell c j) 0 ∅ 0))
          ∗ ownDone m ρ c ∗ atPos ER (barCell c) 1 ∅ 0 ∗ idleSt m ρ c)) := by
  unfold sendSt recvSt recvRes leftRes
  rw [oweRecv_end, Finset.Ico_self, Finset.Ico_self, bigSep_empty, bigSep_empty]
  iintro ⟨HK, ⟨HO, -, Hcr⟩, Hown, HaB, HR, HL, HI⟩
  isplitl [HK]; · iexact HK
  isplitl [HO HR]
  · isplitl [HO]; · iexact HO
    isplitl
    · iexact HR
    · iempintro
  isplitl [Hcr HL]
  · rw [bigSep_sep']
    isplitl [Hcr]; · iexact Hcr
    iexact HL
  isplitl [Hown]; · iexact Hown
  isplitl [HaB]; · iexact HaB
  iexact HI

/-- What a device's waits for the blocks leave. -/
def arrived (c : Dev nD) : sProp 𝕄 :=
  bigSep (Finset.Ico 1 32) fun j => iprop(atPos ER (recvCell c (bwd c j)) 1 ∅ 0 ∗ slotPts c (bwd c j) (gath m ρ c))

/-- To the waits for the copies to have left. -/
theorem to_left (c : Dev nD) :
    iprop(known m ρ Kb Kd ∗ recvSt m ρ c 32 ∗ ((bigSep (Finset.Ico 1 32) fun j => iprop(cred (tallyAt (sendCell c j) () N) ∗ atPos ER (sendCell c j) 0 ∅ 0))
          ∗ ownDone m ρ c ∗ atPos ER (barCell c) 1 ∅ 0 ∗ idleSt m ρ c))
      ⊢ iprop(known m ρ Kb Kd ∗ leftSt m ρ c 1 ∗ (arrived m ρ c ∗ ownDone m ρ c ∗ atPos ER (barCell c) 1 ∅ 0 ∗ idleSt m ρ c)) := by
  unfold recvSt leftSt arrived
  rw [Finset.Ico_self, Finset.Ico_self, bigSep_empty, bigSep_empty]
  iintro ⟨HK, ⟨HO, -, Har⟩, HL, H⟩
  isplitl [HK]; · iexact HK
  isplitl [HO HL]
  · isplitl [HO]; · iexact HO
    isplitl
    · iexact HL
    · iempintro
  isplitl [Har]; · iexact Har
  iexact H

/-! ## The end -/

omit [FloatOps F] in
theorem close_of (Kn : sProp 𝕄) {I : Type} [DecidableEq I] (S : Finset I) {A V : I → sProp 𝕄} [BI.Persistent Kn]
    (h : ∀ i ∈ S, iprop(Kn ∗ A i) ⊢ |={Set.univ}=> V i) : iprop(Kn ∗ bigSep S A) ⊢ |={Set.univ}=> bigSep S V :=
  (bigSep_with_persistent h).trans (bigSep_fupd _ _)

/-- A copy's cell whose duties are over from round `R` closes: its counter is zero. -/
theorem close_dma (c : Dev nD) {i : ℕ} (hi : i < 64) (R : ℕ) (h : ∀ r, R ≤ r → (sched (F := F) m ρ).duties (dmaCell c i) r = ∅) :
    iprop(known m ρ Kb Kd ∗ atPos ER (dmaCell c i) R ∅ 0) ⊢ |={Set.univ}=> semVal (dmaCell c i) 0 := by
  refine BIBase.Entails.trans ?_ (Rounds.cell_close ER (sched m ρ) (Set.mem_univ (Kd (c, ⟨i, hi⟩))) (fun h => h) h)
  iintro ⟨HK, Ha⟩
  isplitl [HK]; · iapply (known_dma m ρ Kb Kd c hi); iexact HK
  iexact Ha
theorem close_bar (c : Dev nD) :
    iprop(known m ρ Kb Kd ∗ atPos ER (barCell c) 1 ∅ 0) ⊢ |={Set.univ}=> semVal (barCell c) 0 := by
  refine BIBase.Entails.trans ?_ (Rounds.cell_close ER (sched m ρ) (Set.mem_univ (Kb c)) (fun h => h) (duties_later m ρ (barCell c)))
  iintro ⟨HK, Ha⟩
  isplitl [HK]; · iapply (known_bar m ρ Kb Kd c); iexact HK
  iexact Ha

/-- Once everything has arrived and left: the staged `x` is whole again, the gather buffer is full, and every semaphore
    is at zero. -/
theorem gathered (c : Dev nD) :
    iprop(known m ρ Kb Kd ∗ leftSt m ρ c 32 ∗ (arrived m ρ c ∗ ownDone m ρ c ∗ atPos ER (barCell c) 1 ∅ 0 ∗ idleSt m ρ c))
      ⊢ |={Set.univ}=> iprop(owing c 0 ∗ xPts m ρ c ∗ gPts c (gath m ρ c) ∗ ioPts m ρ c ∗ semVal (barCell c) 0 ∗ bigSep Finset.univ fun i : Fin 64 => semVal (dmaCell c i.val) 0) := by
  have hc := dev_lt c
  unfold leftSt arrived ownDone idleSt xPts gPts
  rw [sep_of _ (fun j => atPos ER (sendCell c j) 1 ∅ 0), sep_of _ (fun j => atPos ER (recvCell c (bwd c j)) 1 ∅ 0), rows_split, slots_split, ahead_split c (fun t => rowsPts m ρ c t), behind_split c (fun s => slotPts c s (gath m ρ c)),
    dma_split c (fun i => (semVal (dmaCell c i) 0 : sProp 𝕄))]
  iintro ⟨#HK, ⟨HO, -, HaS, Hrows⟩, ⟨HaR, Hslots⟩, ⟨Hrow, Hslot⟩, HaB, Ha0, Hac, Hio⟩
  imod (close_bar m ρ Kb Kd c) $$ [HaB] with HzB
  · isplitr; · iexact HK
    iexact HaB
  imod (close_dma m ρ Kb Kd c (i := 0) (by decide) 0 (duties_idle_all m ρ c (by decide) (Or.inl rfl))) $$ [Ha0] with Hz0
  · isplitr; · iexact HK
    iexact Ha0
  imod (close_dma m ρ Kb Kd c (i := 32 + c.val) (by omega) 0 (duties_idle_all m ρ c (by omega) (Or.inr rfl))) $$ [Hac] with Hzc
  · isplitr; · iexact HK
    iexact Hac
  imod (close_of (known m ρ Kb Kd) (Finset.Ico 1 32) (A := fun j => atPos ER (sendCell c j) 1 ∅ 0) (V := fun j => semVal (sendCell c j) 0)
      fun j hj => close_dma m ρ Kb Kd c (by have := (Finset.mem_Ico.mp hj).2; omega) 1 (duties_later m ρ _)) $$ [HaS] with HzS
  · isplitr; · iexact HK
    iexact HaS
  imod (close_of (known m ρ Kb Kd) (Finset.Ico 1 32) (A := fun j => atPos ER (recvCell c (bwd c j)) 1 ∅ 0) (V := fun j => semVal (recvCell c (bwd c j)) 0)
      fun j hj => close_dma m ρ Kb Kd c (by have := dev_lt (bwd c j); omega) 1 (duties_later m ρ _)) $$ [HaR] with HzR
  · isplitr; · iexact HK
    iexact HaR
  imodintro
  isplitl [HO]; · iexact HO
  isplitl [Hrow Hrows]
  · isplitl [Hrow]; · iexact Hrow
    iexact Hrows
  isplitl [Hslot Hslots]
  · isplitl [Hslot]; · iexact Hslot
    iexact Hslots
  isplitl [Hio]; · iexact Hio
  isplitl [HzB]; · iexact HzB
  isplitl [Hz0]; · iexact Hz0
  isplitl [Hzc]; · iexact Hzc
  isplitl [HzS]; · iexact HzS
  iexact HzR

end Cert.AllToAll

end
-- ==== Proof.Run.lean ====
/- The body of the kernel on one device, run from what it is dealt to its result. -/
module

public import proofs.«01_k».proof.Proof.Regroup
public import proofs.«01_k».proof.Proof.Gen.KernelIdeal.Skeleton

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Kb : Dev nD → ℕ) (Kd : Dev nD × Fin 64 → ℕ)

/-! ## The program's device numbers and offsets -/

/-- The device `k` places ahead, as the program computes its number. -/
theorem word_fwd (c : Dev nD) (r : Fin 31) :
    (Scalar.addi 0#32 (Scalar.muli (Scalar.remsi (Scalar.addi (Scalar.remsi (Scalar.divsi (Dev.word c) 1#32) 32#32) (BitVec.ofNat 32 (1 + r.val))) 32#32) 1#32)).toNat
      = (fwd c (1 + r.val)).val := by
  revert c r; decide +kernel

theorem dev_fwd (c : Dev nD) {k : ℕ} (h0 : 1 ≤ k) (hk : k < 32) :
    (Scalar.addi 0#32 (Scalar.muli (Scalar.remsi (Scalar.addi (Scalar.remsi (Scalar.divsi (Dev.word c) 1#32) 32#32) (BitVec.ofNat 32 k)) 32#32) 1#32)).toNat
      = (fwd c k).val := by
  obtain ⟨r, rfl⟩ : ∃ r, k = 1 + r := ⟨k - 1, by omega⟩
  exact word_fwd c ⟨r, by omega⟩

/-- A device with that number. -/
theorem device_eq {c n : Dev nD} {k : ℕ} (h0 : 1 ≤ k) (hk : k < 32)
    (hn : n.val = (Scalar.addi 0#32 (Scalar.muli (Scalar.remsi (Scalar.addi (Scalar.remsi (Scalar.divsi (Dev.word c) 1#32) 32#32) (BitVec.ofNat 32 k)) 32#32) 1#32)).toNat) :
    n = fwd c k := Fin.ext (hn.trans (dev_fwd c h0 hk))

/-- The offsets of the rows that go `k` places ahead; -/
theorem off_fwd (c : Dev nD) {k : ℕ} (h0 : 1 ≤ k) (hk : k < 32) : k0_off5 c (BitVec.ofNat 32 k) = ![64 * (fwd c k).val, 0] := by
  obtain ⟨r, rfl⟩ : ∃ r, k = 1 + r := ⟨k - 1, by omega⟩
  rw [show BitVec.ofNat 32 (1 + r) = BitVec.ofNat 32 (1 + (⟨r, by omega⟩ : Fin 31).val) from rfl, k0_off5_eq, fwd_val]
  show ![64 * ((c.val + r + 1) % 32), 0] = ![64 * ((c.val + (1 + r)) % 32), 0]
  rw [Nat.add_assoc, Nat.add_comm r 1]
/-- of the slot of the device `k` places behind; -/
theorem off_slot (c : Dev nD) {k : ℕ} (h0 : 1 ≤ k) (hk : k < 32) : k0_off7 c (BitVec.ofNat 32 k) = ![(bwd c k).val, 0, 0] := by
  obtain ⟨r, rfl⟩ : ∃ r, k = 1 + r := ⟨k - 1, by omega⟩
  rw [show BitVec.ofNat 32 (1 + r) = BitVec.ofNat 32 (1 + (⟨r, by omega⟩ : Fin 31).val) from rfl, k0_off7_eq, bwd_val]
  show ![(c.val + 31 - r) % 32, 0, 0] = ![(c.val + (32 - (1 + r))) % 32, 0, 0]
  congr 2
  omega
/-- and of its semaphore. -/
theorem off_recv (c : Dev nD) {k : ℕ} (h0 : 1 ≤ k) (hk : k < 32) : k0_off6 c (BitVec.ofNat 32 k) 0 = (bwd c k).val := by
  obtain ⟨r, rfl⟩ : ∃ r, k = 1 + r := ⟨k - 1, by omega⟩
  rw [show BitVec.ofNat 32 (1 + r) = BitVec.ofNat 32 (1 + (⟨r, by omega⟩ : Fin 31).val) from rfl, k0_off6_eq, bwd_val]
  show (c.val + 31 - r) % 32 = (c.val + (32 - (1 + r))) % 32
  congr 1
  omega

/-! ## The device's own block, and the result -/

variable {α : Type}

/-- The device's own rows are stored in its own slot. -/
theorem step_own (c : Dev nD) {offx : Fin 2 → ℕ} (hx : offx = ![64 * c.val, 0]) {offg : Fin 3 → ℕ} (hg : offg = ![c.val, 0, 0])
    {hxi : ∀ a, offx a + S64x64.size a ≤ S2048x64.size a} {hgi : ∀ a, offg a + S1x64x64.size a ≤ S32x64x64.size a}
    {h1 : (xM : Memref sig .tc .vmem S2048x64 .f32).view.LoadsAt (Rect.unit (s := S2048x64) offx S64x64.size hxi).toLoadRect}
    {h2 : (gM : Memref sig .tc .vmem S32x64x64 .f32).view.LoadsAt (Rect.unit (s := S32x64x64) offg S1x64x64.size hgi).toLoadRect}
    {h3 : ((gM : Memref sig .tc .vmem S32x64x64 .f32).access (Rect.unit (s := S32x64x64) offg S1x64x64.size hgi)).Stores Finset.univ}
    {h4 : (Finset.univ : Finset (Rect.unit (s := S32x64x64) offg S1x64x64.size hgi).shape.Idx) = Finset.univ ∨ ∀ a, (Rect.unit (s := S32x64x64) offg S1x64x64.size hgi).stride a = 1}
    {kont : PUnit → Prog (TpuEff nD τ sig (Elt F) Λ₀ .tc) α} (R : sProp 𝕄) {Q : α → sProp 𝕄}
    (h : iprop(known m ρ Kb Kd ∗ ownDone m ρ c ∗ R) ⊢ runs c (kont ⟨⟩) Q) :
    iprop(known m ρ Kb Kd ∗ ownSt m ρ c ∗ R)
      ⊢ runs c (.op (.load xM (Rect.unit (s := S2048x64) offx S64x64.size hxi).toLoadRect h1) fun v =>
          .op (.load gM (Rect.unit (s := S32x64x64) offg S1x64x64.size hgi).toLoadRect h2) fun _ =>
          .op (.store gM (Rect.unit (s := S32x64x64) offg S1x64x64.size hgi) (k0_pay2 v) Finset.univ h3 h4) kont) Q := by
  subst hx hg
  have hsx : (xM.access (rowsR c)).set ⊆ rowsSet c := by
    rw [rowsSet_eq]; exact (View.set_slice_whole cc0_stg0_0 (rowsR c)).le
  have hst : (gM.access (slotR c)).setOn Finset.univ ⊆ slotSet c := by
    rw [slotSet_eq]; exact (View.set_slice_whole cc0_scratch0 (slotR c)).le
  unfold ownSt rowsPts slotPts
  iintro ⟨HK, ⟨Hx, ⟨%f, Hg⟩⟩, HR⟩
  iapply (wp_load_rect 𝒱₀ (c : Thread nD τ) none Set.univ (m := xM) (r := rowsR c) hsx) $$ Hx; iintro Hx
  iapply (wp_load_rect 𝒱₀ (c : Thread nD τ) none Set.univ (m := gM) (r := slotR c) hst) $$ Hg; iintro Hg
  iapply (wp_store 𝒱₀ (c : Thread nD τ) none Set.univ (m := gM) (r := slotR c) (Mk := Finset.univ) hst) $$ Hg; iintro Hg
  iapply h
  isplitl [HK]; · iexact HK
  isplitl [Hx Hg]
  · unfold ownDone rowsPts slotPts
    isplitl [Hx]; · iexact Hx
    iapply (Entails.of_eq (pointsTo_congr fun i hi => stored m ρ c f i hi))
    iexact Hg
  iexact HR

/-- The result on device `c`: what one block computes from what `c` has gathered and the weights. -/
def outAt (c : Dev nD) : (cc0_stg2_0 : Ref sig .tc).ty.Contents (Elt F) := k0_pay1 (gath m ρ c) (wstg m ρ c)

omit [FloatOps F] in
theorem zero2 : (![0, 0] : Fin 2 → Nat) = fun _ => 0 := funext fun a => by fin_cases a <;> rfl
omit [FloatOps F] in
theorem zero3 : (![0, 0, 0] : Fin 3 → Nat) = fun _ => 0 := funext fun a => by fin_cases a <;> rfl

/-- The whole loads and the store of the result. -/
theorem step_result (c : Dev nD) {h1 h2 h3 h4 h5} (R : sProp 𝕄) {Q : PUnit → sProp 𝕄}
    {kont : PUnit → Prog (TpuEff nD τ sig (Elt F) Λ₀ .tc) PUnit}
    (h : iprop(((((c : Thread nD τ).loc cc0_stg1_0) ↦{fullShare} wstg m ρ c) ∗ ((c : Thread nD τ).loc cc0_stg2_0) ↦{fullShare} outAt m ρ c)
        ∗ gPts c (gath m ρ c) ∗ R) ⊢ runs c (kont ⟨⟩) Q) :
    iprop(ioPts m ρ c ∗ gPts c (gath m ρ c) ∗ R)
      ⊢ runs c (.op (.load gM (Rect.unit (s := S32x64x64) ![0, 0, 0] S32x64x64.size inb_S32x64x64_S32x64x64_0_0_0).toLoadRect h1) fun v =>
          .op (.load wM (Rect.unit (s := S2048x2048) ![0, 0] S2048x2048.size inb_S2048x2048_S2048x2048_0_0).toLoadRect h2) fun w =>
          .op (.load oM (Rect.unit (s := S64x2048) ![0, 0] S64x2048.size inb_S64x2048_S64x2048_0_0).toLoadRect h3) fun _ =>
          .op (.store oM (Rect.unit (s := S64x2048) ![0, 0] S64x2048.size inb_S64x2048_S64x2048_0_0) (k0_pay1 v w) Finset.univ h4 h5) kont) Q := by
  have eg : View.readAt (Elt F) (gM : Memref sig .tc .vmem S32x64x64 .f32).view
      (Rect.unit (s := S32x64x64) ![0, 0, 0] S32x64x64.size inb_S32x64x64_S32x64x64_0_0_0).toLoadRect (gath m ρ c) = gath m ρ c :=
    Memref.readAt_unit_zero (Elt F) cc0_scratch0 zero3 _ _
  have ew : View.readAt (Elt F) (wM : Memref sig .tc .vmem S2048x2048 .f32).view
      (Rect.unit (s := S2048x2048) ![0, 0] S2048x2048.size inb_S2048x2048_S2048x2048_0_0).toLoadRect (wstg m ρ c) = wstg m ρ c :=
    Memref.readAt_unit_zero (Elt F) cc0_stg1_0 zero2 _ _
  have eo (f w) : ((oM : Memref sig .tc .vmem S64x2048 .f32).access
      (Rect.unit (s := S64x2048) ![0, 0] S64x2048.size inb_S64x2048_S64x2048_0_0)).write (Elt F) f w Finset.univ = w :=
    Memref.write_access_unit_zero_univ (Elt F) cc0_stg2_0 zero2 _ f w
  unfold ioPts gPts
  iintro ⟨⟨Hw, ⟨%f, Ho⟩⟩, Hg, HR⟩
  iapply (wp_load 𝒱₀ (c : Thread nD τ) none Set.univ (m := gM) (Finset.subset_univ _)) $$ Hg; iintro Hg
  rw [eg]
  iapply (wp_load 𝒱₀ (c : Thread nD τ) none Set.univ (m := wM) (Finset.subset_univ _)) $$ Hw; iintro Hw
  rw [ew]
  iapply (wp_load 𝒱₀ (c : Thread nD τ) none Set.univ (m := oM) (Finset.subset_univ _)) $$ Ho; iintro Ho
  iapply (wp_store 𝒱₀ (c : Thread nD τ) none Set.univ (m := oM) (r := Rect.unit (s := S64x2048) ![0, 0] S64x2048.size inb_S64x2048_S64x2048_0_0)
    (Mk := Finset.univ) (Finset.subset_univ _)) $$ Ho; iintro Ho
  rw [eo]
  iapply h
  unfold gPts outAt
  isplitl [Hw Ho]
  · isplitl [Hw]; · iexact Hw
    iexact Ho
  isplitl [Hg]; · iexact Hg
  iexact HR

/-! ## The body -/

/-- What the body leaves on device `c`: nothing owed, `x` and the weights as they were, the gather buffer full, the
    result, every semaphore at zero. -/
def bodyDone (c : Dev nD) : sProp 𝕄 :=
  iprop(((((c : Thread nD τ).loc cc0_stg1_0) ↦{fullShare} wstg m ρ c) ∗ ((c : Thread nD τ).loc cc0_stg2_0) ↦{fullShare} outAt m ρ c)
    ∗ gPts c (gath m ρ c) ∗ owing c 0 ∗ xPts m ρ c ∗ semVal (barCell c) 0 ∗ bigSep Finset.univ fun i : Fin 64 => semVal (dmaCell c i.val) 0)

theorem bodyDone_of (c : Dev nD) {p : Prog (TpuEff nD τ sig (Elt F) Λ₀ .tc) PUnit} {Q : PUnit → sProp 𝕄}
    (h : iprop(ioPts m ρ c ∗ gPts c (gath m ρ c) ∗ owing c 0 ∗ xPts m ρ c ∗ semVal (barCell c) 0 ∗ bigSep Finset.univ fun i : Fin 64 => semVal (dmaCell c i.val) 0)
      ⊢ runs c p Q) :
    iprop(known m ρ Kb Kd ∗ leftSt m ρ c 32 ∗ (arrived m ρ c ∗ ownDone m ρ c ∗ atPos ER (barCell c) 1 ∅ 0 ∗ idleSt m ρ c)) ⊢ runs c p Q := by
  iintro H
  imod (gathered m ρ Kb Kd c) $$ H with ⟨HO, Hx, Hg, Hio, HzB, HzD⟩
  iapply h
  isplitl [Hio]; · iexact Hio
  isplitl [Hg]; · iexact Hg
  isplitl [HO]; · iexact HO
  isplitl [Hx]; · iexact Hx
  isplitl [HzB]; · iexact HzB
  iexact HzD

end Cert.AllToAll

end
-- ==== Proof.Trace.lean ====
/- The whole body of the kernel on one device, run from what it is dealt to its result. -/
module

public import proofs.«01_k».proof.Proof.Run

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (Kb : Dev nD → ℕ) (Kd : Dev nD × Fin 64 → ℕ)

set_option maxRecDepth 100000 in
set_option maxHeartbeats 4000000 in
/-- The body: 31 signals, the barrier wait, the own block, 31 copies, 31 waits for blocks, 31 waits for copies to have
    left, the result. -/
theorem run_body (c : Dev nD) {Q : PUnit → sProp 𝕄} (hQ : bodyDone m ρ c ⊢ Q ⟨⟩) :
    iprop(known m ρ Kb Kd ∗ positions c ∗ payToks c ∗ creds c ∗ owing c (O₀ c) ∗ xPts m ρ c ∗ (∃ f, gPts c f) ∗ ioPts m ρ c)
      ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2)
        Q := by
  rw [cc0_body_eq_skeleton]; unfold cc0_body_skel
  rw [k0_part34_eq_skeleton]; unfold k0_part34_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel k0_part27_skel k0_part28_skel k0_part29_skel k0_part30_skel
    k0_part31_skel k0_part32_skel k0_part33_skel
  simp only [semSignalWord, semWaitWord, Prog.lift, Prog.bind_op, Prog.bind_ret, Prog.pure_eq_ret, wp_deviceId]
  refine BIBase.Entails.trans (deal m ρ Kb Kd c) ?_
  iterate 31
    refine step_signal m ρ Kb Kd c _ (by decide) (by decide) (by exact device_eq (by decide) (by decide) rfl) rfl _ ?_
  refine BIBase.Entails.trans (to_barrier m ρ Kb Kd c) ?_
  refine step_barrier m ρ Kb Kd c rfl _ ?_
  refine BIBase.Entails.trans (to_own m ρ Kb Kd c) ?_
  refine step_own m ρ Kb Kd c (k0_off1_eq c) (k0_off2_eq c) _ ?_
  refine BIBase.Entails.trans (to_send m ρ Kb Kd c) ?_
  iterate 31
    refine step_send m ρ Kb Kd c _ (by decide) (by decide) (by exact device_eq (by decide) (by decide) rfl)
      (by exact rows_eq (off_fwd c (by decide) (by decide)) _) (by exact slot_eq (k0_off4_eq c) _)
      (by exact sendS_eq rfl (by decide) _) (by exact recvS_eq (congrFun (k0_off3_eq c) 0) _) _ ?_
  refine BIBase.Entails.trans (to_recv m ρ Kb Kd c) ?_
  iterate 31
    refine step_recv m ρ Kb Kd c (by decide) (by decide) (by exact slot_eq (off_slot c (by decide) (by decide)) _)
      (by exact recvS_eq (off_recv c (by decide) (by decide)) _) _ ?_
  refine BIBase.Entails.trans (to_left m ρ Kb Kd c) ?_
  iterate 31
    refine step_left m ρ Kb Kd c (by decide) (by decide) (by exact rows_eq (off_fwd c (by decide) (by decide)) _)
      (by exact sendS_eq rfl (by decide) _) _ ?_
  refine bodyDone_of m ρ Kb Kd c ?_
  refine step_result m ρ c _ ?_
  unfold runs
  rw [wp_ret]
  iintro H
  imodintro
  iapply hQ
  unfold bodyDone
  iexact H

end Cert.AllToAll
-- ==== Proof.Body.lean ====
/- The body as the launch wants it: what each window holds around the body, and the body's obligation. -/
module

public import proofs.«01_k».proof.Proof.Trace
public import proofs.«01_k».proof.Proof.Gen.KernelIdeal.Launch
public import Idealize.ShloMosaic.Lib.Pipeline.Launch
public import Idealize.ShloMosaic.Lib.Pipeline.Kit

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## Around the body -/

/-- The invariants of all the cells, and that every cell has reached its round. -/
def records (Kb : Dev nD → ℕ) (Kd : Dev nD × Fin 64 → ℕ) : sProp 𝕄 :=
  iprop((bigSep Finset.univ fun c : Dev nD => cellInv ER (sched m ρ) (Kb c) (barCell c))
    ∗ (bigSep Finset.univ fun c : Dev nD => reached ER (barCell c) 0)
    ∗ (bigSep Finset.univ fun ci : Dev nD × Fin 64 => cellInv ER (sched m ρ) (Kd ci) (dmaCell ci.1 ci.2.val))
    ∗ (bigSep Finset.univ fun ci : Dev nD × Fin 64 => reached ER (dmaCell ci.1 ci.2.val) 0))

instance records_persistent (Kb : Dev nD → ℕ) (Kd : Dev nD × Fin 64 → ℕ) : BI.Persistent (records m ρ Kb Kd) := by unfold records; infer_instance

/-- What device `c` has of the protocol: the records at some names, its positions, the tokens it pays with. -/
def share (c : Dev nD) : sProp 𝕄 := iprop(∃ Kb Kd, records m ρ Kb Kd ∗ positions c ∗ payToks c)

/-- What the launch gives device `c`'s body beside its buffers. -/
def start (c : Dev nD) : sProp 𝕄 := iprop(share m ρ c ∗ creds c ∗ levAts L lv)

/-- Before the body: that, and the gather buffer. After it: the gather buffer full and every semaphore at zero. -/
def Φ₀ (c : Dev nD) : sProp 𝕄 := iprop(start m ρ c ∗ ∃ f, gPts c f)
def Φ₁ (c : Dev nD) : sProp 𝕄 :=
  iprop(gPts c (gath m ρ c) ∗ semVal (barCell c) 0 ∗ bigSep Finset.univ fun i : Fin 64 => semVal (dmaCell c i.val) 0)

/-- The windows: `x` and the weights as staged, the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Before the body, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and after it. -/
def bodyPost (c : Dev nD) : sProp 𝕄 :=
  iprop(Φ₁ m ρ c ∗ (dats m ρ 0 c).owesAt () t0_0.succ ∗ stg c cc0_stg0_0 (xstg m ρ c) ∗ stg c cc0_stg1_0 (wstg m ρ c) ∗ stg c cc0_stg2_0 (outAt m ρ c))

theorem bodyPre_deal (c : Dev nD) : bodyPre m ρ c ⊢ iprop(∃ Kb Kd, known m ρ Kb Kd ∗ positions c ∗ payToks c ∗ creds c ∗ owing c (O₀ c)
      ∗ xPts m ρ c ∗ (∃ f, gPts c f) ∗ ioPts m ρ c) := by
  unfold bodyPre Φ₀ start share
  iintro ⟨⟨⟨⟨%Kb, %Kd, Hrec, Hat, Htok⟩, Hcr, Hlev⟩, Hg⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_x t0_0)]; rfl
  have hw : g1 = wstg m ρ c := by rw [hg1]; unfold Dat.before; rw [if_pos (fetch_w t0_0)]; rfl
  subst hx hw
  unfold Dat.owesAt Pipeline.owesWithin
  icases Ho with ⟨%W, %hW, HO⟩
  rw [show (dats m ρ 0 c).owed t0_0.castSucc = O₀ c from rfl]
  iexists Kb; iexists Kd
  isplitl [Hrec Hlev]
  · unfold records known
    icases Hrec with ⟨H1, H2, H3, H4⟩
    isplitl [H1]; · iexact H1
    isplitl [H2]; · iexact H2
    isplitl [H3]; · iexact H3
    isplitl [H4]; · iexact H4
    iexact Hlev
  isplitl [Hat]; · iexact Hat
  isplitl [Htok]; · iexact Htok
  isplitl [Hcr]; · iexact Hcr
  isplitl [HO]; · unfold owing; iexists W; iexact HO
  isplitl [Hx]; · unfold xPts; iexact Hx
  isplitl [Hg]; · iexact Hg
  unfold ioPts
  isplitl [Hw]; · iexact Hw
  iexists g2; iexact Hout

theorem bodyPost_of (c : Dev nD) : bodyDone m ρ c ⊢ bodyPost m ρ c := by
  unfold bodyDone bodyPost Φ₁ owing xPts
  iintro ⟨⟨Hw, Ho⟩, Hg, ⟨%W, HO⟩, Hx, HzB, HzD⟩
  isplitl [Hg HzB HzD]
  · isplitl [Hg]; · iexact Hg
    isplitl [HzB]; · iexact HzB
    iexact HzD
  isplitl [HO]
  · unfold Dat.owesAt Pipeline.owesWithin
    rw [show (dats m ρ 0 c).owed t0_0.succ = 0 from rfl]
    iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ runs c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _) cc0_scratch1 cc0_scratch2)
        (fun _ => bodyPost m ρ c)
  refine BIBase.Entails.trans (bodyPre_deal m ρ c) ?_
  iintro ⟨%Kb, %Kd, H⟩
  iapply (run_body m ρ Kb Kd c (bodyPost_of m ρ c))
  iexact H

end Cert.AllToAll

end
-- ==== Proof.Deal.lean ====
/- The cells and the tokens the launch mints, and how they are dealt to the devices. -/
module

public import proofs.«01_k».proof.Proof.Body

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The kernel's semaphores -/

/-- The semaphores the kernel allocates: the 64 of its copies. -/
abbrev osem : Fin 64 → SemLoc sig := fun i => .dma (dsem i.val)

set_option maxRecDepth 100000 in
theorem ownSemFacts : Pipeline.OwnSemFacts cfg0.spec osem where
  isScoped := by decide
  inj := fun i j h => Fin.ext (dsem_inj i.isLt j.isLt (SemLoc.dma.inj h))
  disj := by decide

/-! ## The cells -/

theorem barCell_injective : Function.Injective (barCell : Dev nD → GSem nD τ sig) := fun a b h => congrArg (fun g : GSem nD τ sig => g.1.1) h
abbrev dmaOf (ci : Dev nD × Fin 64) : GSem nD τ sig := dmaCell ci.1 ci.2.val
theorem dmaOf_injective : Function.Injective dmaOf := by
  rintro ⟨c, i⟩ ⟨c', i'⟩ h
  have h1 : c = c' := congrArg (fun g : GSem nD τ sig => g.1.1) h
  have h2 : dsem i.val = dsem i'.val := SemLoc.dma.inj (congrArg Prod.snd h)
  rw [h1, Fin.ext (dsem_inj i.isLt i'.isLt h2)]

def barCells : Finset (GSem nD τ sig) := Finset.univ.map ⟨barCell, barCell_injective⟩
def dmaCells : Finset (GSem nD τ sig) := Finset.univ.map ⟨dmaOf, dmaOf_injective⟩
/-- All the protocol's cells. -/
def cells : Finset (GSem nD τ sig) := barCells ∪ dmaCells

theorem cells_disjoint : Disjoint barCells dmaCells := by
  rw [Finset.disjoint_left]
  intro g h1 h2
  obtain ⟨c, -, rfl⟩ := Finset.mem_map.mp h1
  obtain ⟨ci, -, h⟩ := Finset.mem_map.mp h2
  exact nomatch (congrArg Prod.snd h : SemLoc.dma (dsem ci.2.val) = SemLoc.reg barS)

omit [FloatOps F] in
/-- A family over the cells is one over the devices' barrier cells and one over the devices' copy cells. -/
theorem cells_split (Φ : GSem nD τ sig → sProp 𝕄) :
    (bigSep cells Φ : sProp 𝕄) = bigSep Finset.univ fun c : Dev nD => iprop(Φ (barCell c) ∗ bigSep Finset.univ fun i : Fin 64 => Φ (dmaCell c i.val)) := by
  rw [sep_of Finset.univ (fun c : Dev nD => Φ (barCell c)) (fun c : Dev nD => bigSep Finset.univ fun i : Fin 64 => Φ (dmaCell c i.val)),
    ← bigSep_univ_prod (fun ci : Dev nD × Fin 64 => Φ (dmaOf ci))]
  unfold cells
  rw [bigSep_union cells_disjoint]
  unfold barCells dmaCells
  rw [bigSep_map, bigSep_map]
  rfl

/-! ## The tokens, listed by the device that pays with them -/

/-- The token device `c` pays with for the device `1 + k` places ahead: its signal, its copy's leaving, its copy's arrival. -/
def tokOf (x : (Dev nD × Fin 31) × Fin 3) : GSem nD τ sig × ℕ × Dev nD := match x.2 with
  | 0 => (barCell (fwd x.1.1 (1 + x.1.2.val)), 0, x.1.1)
  | 1 => (sendCell x.1.1 (1 + x.1.2.val), 0, dd)
  | 2 => (recvCell (fwd x.1.1 (1 + x.1.2.val)) x.1.1, 0, dd)

theorem fwd_succ_inj (c : Dev nD) {k k' : Fin 31} (h : fwd c (1 + k.val) = fwd c (1 + k'.val)) : k = k' :=
  Fin.ext (by have := fwd_inj c (Finset.mem_coe.mpr (Finset.mem_Ico.mpr ⟨by omega, by omega⟩)) (Finset.mem_coe.mpr (Finset.mem_Ico.mpr ⟨by omega, by omega⟩)) h; omega)

/-- A pair of cell and duty determines the copy or signal, within each kind and across the kinds. -/
theorem tokOf_injective : Function.Injective tokOf := by
  have cellDev {a b : GSem nD τ sig × ℕ × Dev nD} (h : a = b) : a.1.1.1 = b.1.1.1 := by rw [h]
  have cellSem {a b : GSem nD τ sig × ℕ × Dev nD} (h : a = b) : a.1.2 = b.1.2 := by rw [h]
  have duty {a b : GSem nD τ sig × ℕ × Dev nD} (h : a = b) : a.2.2 = b.2.2 := by rw [h]
  have idx {i j : ℕ} (hi : i < 64) (hj : j < 64) (h : SemLoc.dma (dsem i) = (SemLoc.dma (dsem j) : SemLoc sig)) : i = j := dsem_inj hi hj (SemLoc.dma.inj h)
  rintro ⟨⟨c, k⟩, a⟩ ⟨⟨c', k'⟩, b⟩ h
  have hc := dev_lt c
  have hc' := dev_lt c'
  have hk := k.isLt
  have hk' := k'.isLt
  match a, b, h with
  | 0, 0, h =>
    have h1 : c = c' := duty h
    subst h1
    have h3 : k = k' := fwd_succ_inj c (cellDev h)
    rw [h3]
  | 1, 1, h =>
    have h1 : c = c' := cellDev h
    have h2 : 1 + k.val = 1 + k'.val := idx (by omega) (by omega) (cellSem h)
    rw [h1, Fin.ext (show k.val = k'.val by omega)]
  | 2, 2, h =>
    have h2 : 32 + c.val = 32 + c'.val := idx (by omega) (by omega) (cellSem h)
    have h1 : c = c' := Fin.ext (by omega)
    subst h1
    have h3 : k = k' := fwd_succ_inj c (cellDev h)
    rw [h3]
  | 0, 1, h => exact nomatch (cellSem h : SemLoc.reg barS = SemLoc.dma _)
  | 0, 2, h => exact nomatch (cellSem h : SemLoc.reg barS = SemLoc.dma _)
  | 1, 0, h => exact nomatch (cellSem h : SemLoc.dma _ = SemLoc.reg barS)
  | 2, 0, h => exact nomatch (cellSem h : SemLoc.dma _ = SemLoc.reg barS)
  | 1, 2, h =>
    have h2 : 1 + k.val = 32 + c'.val := idx (by omega) (by omega) (cellSem h)
    omega
  | 2, 1, h =>
    have h2 : 32 + c.val = 1 + k'.val := idx (by omega) (by omega) (cellSem h)
    omega

def tokens : Finset (GSem nD τ sig × ℕ × Dev nD) := Finset.univ.map ⟨tokOf, tokOf_injective⟩

theorem ico_map : Finset.Ico 1 32 = (Finset.univ : Finset (Fin 31)).map ⟨fun k => 1 + k.val, fun a b h => Fin.ext (by simp only at h; omega)⟩ := by
  ext j
  rw [Finset.mem_Ico, Finset.mem_map]
  constructor
  · intro h
    exact ⟨⟨j - 1, by omega⟩, Finset.mem_univ _, by show 1 + (j - 1) = j; omega⟩
  · rintro ⟨k, -, rfl⟩
    have := k.isLt
    exact ⟨by show 1 ≤ 1 + k.val; omega, by show 1 + k.val < 32; omega⟩

omit [FloatOps F] in
theorem tokens_split : bigSep tokens (fun x => (dutyTok ER x.1 x.2.1 x.2.2 : sProp 𝕄)) = bigSep Finset.univ fun c : Dev nD => payToks c := by
  unfold tokens
  rw [bigSep_map, bigSep_univ_prod, bigSep_univ_prod]
  refine bigSep_congr fun c _ => ?_
  unfold payToks
  rw [ico_map, bigSep_map]
  refine bigSep_congr fun k _ => ?_
  rw [bigSep_univ_eq_bigSepL [(0 : Fin 3), 1, 2] (by decide) (by decide)]
  rfl

/-! ## What the launch deals each device, and what all of them make of it -/

/-- Per device: its cells' states, its positions, its cells' rounds reached, its tokens. -/
def dealt (c : Dev nD) : sProp 𝕄 :=
  iprop((roundState ER (sched m ρ) (barCell c) 0 ∗ bigSep Finset.univ fun i : Fin 64 => roundState ER (sched m ρ) (dmaCell c i.val) 0)
    ∗ positions c ∗ (reached ER (barCell c) 0 ∗ bigSep Finset.univ fun i : Fin 64 => reached ER (dmaCell c i.val) 0) ∗ payToks c)

/-- Minting. -/
theorem mint : BI.own (ER (initOf cells tokens)) ⊢ (|==> bigSep Finset.univ (dealt m ρ) : sProp 𝕄) := by
  iintro HX
  imod (Rounds.fund ER (sched m ρ) cells tokens) $$ HX with ⟨Hst, Hr, Hat, Htok⟩
  imodintro
  ihave Hst := (Entails.of_eq (cells_split fun g => roundState ER (sched m ρ) g 0)) $$ Hst
  ihave Hat := (Entails.of_eq (cells_split fun g => atPos ER g 0 ∅ 0)) $$ Hat
  ihave Hr := (Entails.of_eq (cells_split fun g => reached ER g 0)) $$ Hr
  ihave Htok := (Entails.of_eq tokens_split) $$ Htok
  unfold dealt
  iapply (Entails.of_eq (sep_of Finset.univ _ _).symm)
  isplitl [Hst]; · iexact Hst
  iapply (Entails.of_eq (sep_of Finset.univ _ _).symm)
  isplitl [Hat]; · unfold positions; iexact Hat
  iapply (Entails.of_eq (sep_of Finset.univ _ _).symm)
  isplitl [Hr]; · iexact Hr
  iexact Htok

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun i : Fin 64 => semVal (dmaCell c i.val) 0 := rfl
omit [FloatOps F] in
/-- The barrier semaphore is the runtime's: the launch's one semaphore no kernel allocates. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One cell's invariant. -/
theorem cell_alloc (g : GSem nD τ sig) :
    iprop(semVal g 0 ∗ roundState ER (sched m ρ) g 0) ⊢ (|={Set.univ}=> ∃ κ : ℕ, cellInv ER (sched m ρ) κ g : sProp 𝕄) :=
  (Rounds.body_intro ER (sched m ρ) g).trans inv_alloc

theorem fupd_of {I : Type} (S : Finset I) (Φ : I → sProp 𝕄) : (bigSep S fun i => iprop(|={Set.univ}=> Φ i)) ⊢ (|={Set.univ}=> bigSep S Φ : sProp 𝕄) :=
  bigSep_fupd S Φ

/-- After allocation: each cell's invariant at some name. -/
def placed (c : Dev nD) : sProp 𝕄 :=
  iprop((∃ κ : ℕ, cellInv ER (sched m ρ) κ (barCell c)) ∗ (bigSep Finset.univ fun i : Fin 64 => iprop(∃ κ : ℕ, cellInv ER (sched m ρ) κ (dmaCell c i.val)))
    ∗ reached ER (barCell c) 0 ∗ (bigSep Finset.univ fun i : Fin 64 => reached ER (dmaCell c i.val) 0) ∗ positions c ∗ payToks c)

theorem place (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> placed m ρ c := by
  rw [ownSems0_eq, unscopedSems0_eq]
  unfold dealt
  iintro ⟨HvD, HvB, ⟨HsB, HsD⟩, Hat, ⟨HrB, HrD⟩, Htok⟩
  imod (cell_alloc m ρ (barCell c)) $$ [HvB HsB] with HB
  · isplitl [HvB] <;> iassumption
  ihave HD := (Entails.of_eq (sep_of Finset.univ (fun i : Fin 64 => semVal (dmaCell c i.val) 0) (fun i : Fin 64 => roundState ER (sched m ρ) (dmaCell c i.val) 0)).symm) $$ [HvD HsD]
  · isplitl [HvD] <;> iassumption
  imod ((mono_of fun (i : Fin 64) _ => cell_alloc m ρ (dmaCell c i.val)).trans (fupd_of Finset.univ _)) $$ HD with HD
  imodintro
  unfold placed
  isplitl [HB]; · iexact HB
  isplitl [HD]; · iexact HD
  isplitl [HrB]; · iexact HrB
  isplitl [HrD]; · iexact HrD
  isplitl [Hat]; · iexact Hat
  iexact Htok

theorem share_of (Kb : Dev nD → ℕ) (Kd : Dev nD × Fin 64 → ℕ) (c : Dev nD) :
    iprop(records m ρ Kb Kd ∗ (positions c ∗ payToks c)) ⊢ share m ρ c := by
  unfold share
  iintro H
  iexists Kb; iexists Kd
  iexact H

omit [FloatOps F] in
theorem names_of {I : Type} [Fintype I] [DecidableEq I] (P : I → ℕ → sProp 𝕄) :
    (bigSep Finset.univ fun i => iprop(∃ κ : ℕ, P i κ)) ⊢ (∃ K : I → ℕ, bigSep Finset.univ fun i => P i (K i) : sProp 𝕄) :=
  BI.bigSep_exists_pi Finset.univ P
omit [FloatOps F] in
theorem known_of {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ (bigSep S Ψ : sProp 𝕄) := bigSep_with_persistent h

/-- All devices know all cells' invariants. -/
theorem gather_records : bigSep Finset.univ (placed m ρ) ⊢ bigSep Finset.univ (share m ρ) := by
  unfold placed
  iintro H
  ihave H := (Entails.of_eq (sep_of Finset.univ (fun c : Dev nD => iprop(∃ κ : ℕ, cellInv ER (sched m ρ) κ (barCell c))) _)) $$ H
  icases H with ⟨HB, H⟩
  ihave H := (Entails.of_eq (sep_of Finset.univ (fun c : Dev nD => bigSep Finset.univ fun i : Fin 64 => iprop(∃ κ : ℕ, cellInv ER (sched m ρ) κ (dmaCell c i.val))) _)) $$ H
  icases H with ⟨HD, H⟩
  ihave H := (Entails.of_eq (sep_of Finset.univ (fun c : Dev nD => reached ER (barCell c) 0) _)) $$ H
  icases H with ⟨HrB, H⟩
  ihave H := (Entails.of_eq (sep_of Finset.univ (fun c : Dev nD => bigSep Finset.univ fun i : Fin 64 => reached ER (dmaCell c i.val) 0) _)) $$ H
  icases H with ⟨HrD, H⟩
  ihave HB := (names_of fun (c : Dev nD) κ => cellInv ER (sched m ρ) κ (barCell c)) $$ HB
  icases HB with ⟨%Kb, HB⟩
  ihave HD := (Entails.of_eq (bigSep_univ_prod (fun ci : Dev nD × Fin 64 => iprop(∃ κ : ℕ, cellInv ER (sched m ρ) κ (dmaCell ci.1 ci.2.val)))).symm) $$ HD
  ihave HD := (names_of fun (ci : Dev nD × Fin 64) κ => cellInv ER (sched m ρ) κ (dmaCell ci.1 ci.2.val)) $$ HD
  icases HD with ⟨%Kd, HD⟩
  ihave HrD := (Entails.of_eq (bigSep_univ_prod (fun ci : Dev nD × Fin 64 => (reached ER (dmaCell ci.1 ci.2.val) 0 : sProp 𝕄))).symm) $$ HrD
  iapply (known_of (R := records m ρ Kb Kd) fun c _ => share_of m ρ Kb Kd c)
  isplitl [HB HD HrB HrD]
  · unfold records
    isplitl [HB]; · iexact HB
    isplitl [HrB]; · iexact HrB
    isplitl [HD]; · iexact HD
    iexact HrD
  iexact H

/-- The devices' semaphores and what they were dealt become their shares, at once for all. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (share m ρ) :=
  ((mono_of fun c _ => place m ρ c).trans (fupd_of _ _)).trans (BI.fupd_mono (gather_records m ρ))

end Cert.AllToAll

end
-- ==== Proof.Launch.lean ====
/- The launch: the credits of what the devices owe, and the run of the whole program on every device. -/
module

public import proofs.«01_k».proof.Proof.Deal
public import Idealize.ShloMosaic.Lib.Pipeline.CollectiveSegs

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The credits -/

/-- Device `d` owes the barrier cell of `c` a unit for each distance `j` at which `c` is; -/
theorem owed_bar (d c : Dev nD) : O₀ d (barCell c) () = ∑ j ∈ Finset.Ico 1 32, if d = bwd c j then 1 else 0 := by
  have h0 : oweRecv d 1 (barCell c) () = 0 := by
    rcases Nat.eq_zero_or_pos (oweRecv d 1 (barCell c) ()) with h | h
    · exact h
    · obtain ⟨e, he⟩ := oweRecv_pos h
      exact nomatch (congrArg Prod.snd he : SemLoc.reg barS = SemLoc.dma _)
  unfold O₀
  rw [Pi.add_apply, Finsupp.add_apply, h0, Nat.zero_add]
  unfold oweBar
  rw [tally_sum_apply]
  refine Finset.sum_congr rfl fun j hj => ?_
  have hj := Finset.mem_Ico.mp hj
  rw [tallyAt_apply]
  refine if_congr ⟨fun h => ?_, fun h => ?_⟩ rfl rfl
  · have h1 : c = fwd d j := barCell_injective h.1
    rw [h1, bwd_fwd d hj.2]
  · rw [h, fwd_bwd c hj.2]; exact ⟨rfl, rfl⟩

/-- and the cell `c` receives on from `s` a block's credit for each distance `j` at which `c` is, if it is `s`. -/
theorem owed_recv (d c s : Dev nD) : O₀ d (recvCell c s) () = if d = s then (∑ j ∈ Finset.Ico 1 32, if fwd s j = c then N else 0) else 0 := by
  have h0 : oweBar d 1 (recvCell c s) () = 0 := by
    rcases Nat.eq_zero_or_pos (oweBar d 1 (recvCell c s) ()) with h | h
    · exact h
    · obtain ⟨e, he⟩ := oweBar_pos h
      exact nomatch (congrArg Prod.snd he : SemLoc.dma _ = SemLoc.reg barS)
  have hs := dev_lt s
  have hd := dev_lt d
  unfold O₀
  rw [Pi.add_apply, Finsupp.add_apply, h0, Nat.add_zero]
  unfold oweRecv
  rw [tally_sum_apply]
  by_cases h : d = s
  · subst h
    rw [if_pos rfl]
    refine Finset.sum_congr rfl fun j hj => ?_
    rw [tallyAt_apply]
    refine if_congr ⟨fun h => ?_, fun h => ?_⟩ rfl rfl
    · exact (congrArg (fun g : GSem nD τ sig => g.1.1) h.1).symm
    · rw [h]; exact ⟨rfl, rfl⟩
  · rw [if_neg h]
    refine Finset.sum_eq_zero fun j hj => ?_
    rw [tallyAt_apply]
    refine if_neg fun h' => h ?_
    have h2 : dsem (32 + s.val) = dsem (32 + d.val) := SemLoc.dma.inj (congrArg Prod.snd h'.1)
    exact Fin.ext (by have := dsem_inj (by omega) (by omega) h2; omega)

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (bwd c j) fun _ => 1).trans (if_pos (Finset.mem_univ _)), Finset.sum_const, Nat.card_Ico]
  rfl

theorem launch_recv (c : Dev nD) {k : ℕ} (h0 : 1 ≤ k) (hk : k < 32) :
    tallyOn (recvCell c (bwd c k)) (launchCredit (Pipeline.owing O₀) 0 (recvCell c (bwd c k))) = (tallyAt (recvCell c (bwd c k)) () N : CellTallies nD τ sig Unit) := by
  unfold tallyAt; refine congrArg _ (Finsupp.ext fun u => ?_); cases u
  rw [Pipeline.launchCredit_owing, Finsupp.single_eq_same, Finset.sum_congr rfl fun d _ => owed_recv d c (bwd c k),
    Finset.sum_ite_eq' Finset.univ (bwd c k), if_pos (Finset.mem_univ _), Finset.sum_eq_single k, if_pos (fwd_bwd c hk)]
  · intro j hj hne
    refine if_neg fun h => hne ?_
    exact fwd_inj (bwd c k) (Finset.mem_coe.mpr hj) (Finset.mem_coe.mpr (Finset.mem_Ico.mpr ⟨h0, hk⟩)) (h.trans (fwd_bwd c hk).symm)
  · intro h
    exact absurd (Finset.mem_Ico.mpr ⟨h0, hk⟩) h

omit [FloatOps F] in
theorem some_of {I : Type} [DecidableEq I] {S T : Finset I} (h : T ⊆ S) (Φ : I → sProp 𝕄) : (bigSep S Φ : sProp 𝕄) ⊢ bigSep T Φ := bigSep_subset h

theorem dma_ne_bar (q : DmaSem sig) : (SemLoc.dma q : SemLoc sig) ≠ SemLoc.reg barS := fun h => nomatch h

/-- The semaphore device `c` receives on from the device `j` places behind. -/
def fromSem (c : Dev nD) (j : ℕ) : SemLoc sig := .dma (dsem (32 + (bwd c j).val))

theorem fromSem_inj (c : Dev nD) : Set.InjOn (fromSem c) (Finset.Ico 1 32 : Finset ℕ) := fun j hj j' hj' h => by
  have h1 := dev_lt (bwd c j)
  have h2 := dev_lt (bwd c j')
  have h3 : dsem (32 + (bwd c j).val) = dsem (32 + (bwd c j').val) := SemLoc.dma.inj h
  have h4 : 32 + (bwd c j).val = 32 + (bwd c j').val := dsem_inj (by omega) (by omega) h3
  exact bwd_inj c hj hj' (Fin.ext (Nat.add_left_cancel h4))

theorem fromSem_ne (c : Dev nD) (j : ℕ) : fromSem c j ≠ SemLoc.reg barS := dma_ne_bar _

omit [FloatOps F] in
/-- Of a family over the semaphores, the members at the barrier and at the ones received on. -/
theorem pick (c : Dev nD) (Φ : SemLoc sig → sProp 𝕄) :
    (bigSep Finset.univ Φ : sProp 𝕄) ⊢ iprop(Φ (.reg barS) ∗ bigSep (Finset.Ico 1 32) fun j => Φ (fromSem c j)) := by
  rw [bigSep_univ_at Φ (SemLoc.reg barS), ← bigSep_image_of_injOn (fromSem_inj c) Φ]
  refine sep_mono_right (some_of (fun x hx => ?_) Φ)
  obtain ⟨j, -, rfl⟩ := Finset.mem_image.mp hx
  refine Finset.mem_erase.mpr ⟨fromSem_ne c j, ?_⟩
  exact Finset.mem_univ _

omit [FloatOps F] in
/-- The credits of device `c`'s waits are in what the launch gives it. -/
theorem creds_of (c : Dev nD) : (Pipeline.launchCred O₀ c : sProp 𝕄) ⊢ creds c := by
  unfold Pipeline.launchCred creds
  refine BIBase.Entails.trans (pick c _) ?_
  iintro ⟨HB, HR⟩
  isplitl [HB]
  · iapply (Entails.of_eq (congrArg cred (launch_bar c)))
    iexact HB
  iapply (mono_of fun j hj => Entails.of_eq (congrArg cred (launch_recv c (Finset.mem_Ico.mp hj).1 (Finset.mem_Ico.mp hj).2)))
  iexact HR

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m ρ c)
      ⊢ |={Set.univ}=> iprop(start m ρ c ∗ emp) := by
  iintro ⟨-, Hlev, Hcr, -, HG⟩
  ihave Hc := (creds_of (F := F) c) $$ Hcr
  imodintro
  unfold start
  isplitl
  · isplitl [HG]; · iexact HG
    isplitl [Hc]; · iexact Hc
    iexact Hlev
  · iempintro

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold gPts; iexact Hr

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ gPts
  iintro ⟨Hr, HzB, HzD⟩
  isplitl [HzB]; · iexact HzB
  isplitl [HzD]; · iexact HzD
  iexists (gath m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_full (c : Dev nD) (w : Fin cfg0.W) : (dats m ρ 0 c).share w = fullShare := by unfold Dat.share; split <;> rfl

/-! ## The run -/

def u₀ : UU := (initOf (Pipeline.cells cfgs cellOf_inj) (Pipeline.launchToks cfgs cellOf_inj), initOf cells tokens)

/-- What the windows' arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero, every execution of the program on the 32 devices ends, with the arrays
    at their computed contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt m ρ) (G' := share m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` and the weights are kept; -/
theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.AllToAll

end
-- ==== Proof.Result.lean ====
/- What the arrays of one device hold when the program ends: the result is what the body computed from the gathered
   blocks and the weights, and the arguments are kept. -/
module

public import proofs.«01_k».proof.Proof.Launch

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged block of `x` is the whole argument array; -/
theorem xstg_eq (c : Dev nD) : xstg m ρ c = m ((c : Thread nD τ).loc main_arg0) :=
  Memref.read_access_unit_zero (Elt F) main_arg0 (funext fun a => by fin_cases a <;> rfl) (fun a => by fin_cases a <;> decide) _

/-- so is the staged block of the weights. -/
theorem wstg_eq (c : Dev nD) : wstg m ρ c = m ((c : Thread nD τ).loc main_arg1) :=
  Memref.read_access_unit_zero (Elt F) main_arg1 (funext fun a => by fin_cases a <;> rfl) (fun a => by fin_cases a <;> decide) _

/-- The result array's one block, read back, is what the body left in the staging buffer. -/
theorem final_block (c : Dev nD) :
    (win0_2.blk (0 : Fin 1)).view.read (Elt F) (finalA m ρ c (2 : Fin 3)) = outAt m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- The block is the whole array: the result array ends at what the body computed. -/
theorem final_out (c : Dev nD) : finalA m ρ c (2 : Fin 3) = outAt m ρ c :=
  (Memref.read_access_unit_zero (Elt F) main_v1 (funext fun a => by fin_cases a <;> rfl) (fun a => by fin_cases a <;> decide)
    (finalA m ρ c (2 : Fin 3))).symm.trans (final_block m ρ c)

/-- The blocks gathered on device `c`, from the arguments: slot `s`, row `r`, column `k` is entry `(64 c + r, k)` of the
    array `x` of device `s`. -/
def rowsOf (X : Dev nD → Vec F S2048x64 .f32) (c : Dev nD) : Vec F S32x64x64 .f32 := fun i =>
  X (i 0) (ValueIdx.ix2 ⟨64 * c.val + (i 1).val, by
    have h : (i 1).val < 64 := (i 1).isLt
    have hc := dev_lt c
    show _ < 2048
    omega⟩ (i 2))

theorem gath_eq (c : Dev nD) : gath m ρ c = rowsOf (fun d => m ((d : Thread nD τ).loc main_arg0)) c := by
  funext i
  exact congrFun (xstg_eq m ρ (i 0)) _

/-- Every execution ends with each device's result at the body's function of the gathered blocks and the weights, the
    arguments kept, and every semaphore at zero. -/
theorem run_value : θ_run defs (onTc (τ := τ) (main (F := F))) ⟨m, fun _ => 0, ρ⟩ (fun r =>
    (∀ c : Dev nD,
      r.2.mem ((c : Thread nD τ).loc main_v1) = k0_pay1 (rowsOf (fun d => m ((d : Thread nD τ).loc main_arg0)) c) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c =>
    ⟨((h.1 c (2 : Fin 3)).trans (final_out m ρ c)).trans (by unfold outAt; rw [gath_eq, wstg_eq]),
      (h.1 c (0 : Fin 3)).trans (final_x m ρ c), (h.1 c (1 : Fin 3)).trans (final_w m ρ c)⟩, h.2⟩)
    (run_main m ρ)

end Cert.AllToAll

end
-- ==== Proof.Twin.lean ====
/- The kernel is printed twice, once for the machine floats and once for the ideal reading; no operation was rewritten,
   so the two texts are the same program. This module says so, and carries the run from one to the other. -/
module

public import proofs.«01_k».proof.Proof.Result
public import proofs.«01_k».proof.Proof.Gen.Kernel

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two programs are the same; -/
theorem main_twin : Cert.Kernel.main (F := F) = Cert.KernelIdeal.main (F := F) := rfl

/-- so are the tables of the kernels' bodies, -/
theorem defs₀_twin : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl

/-- and the tables of all bodies. -/
theorem defs_twin : Cert.Kernel.defs (F := F) = Cert.KernelIdeal.defs (F := F) :=
  congrArg (Pipeline.defs (Cert.KernelIdeal.pcfgs (F := F))) defs₀_twin

/-- So every execution of the program as printed for the machine floats ends as well, the arguments kept and every
    semaphore at zero. -/
theorem run_twin : θ_run (Cert.Kernel.defs (F := F)) (onTc (τ := Cert.Kernel.τ) (Cert.Kernel.main (F := F))) ⟨m, fun _ => 0, ρ⟩ (fun r =>
    (∀ c : Dev nD,
      r.2.mem ((c : Thread nD τ).loc main_arg0) = m ((c : Thread nD τ).loc main_arg0)
      ∧ r.2.mem ((c : Thread nD τ).loc main_arg1) = m ((c : Thread nD τ).loc main_arg1))
    ∧ r.2.sem = fun _ => 0) := by
  rw [main_twin, defs_twin]
  exact (θ_run defs _ _).mono (fun _ h => ⟨fun c => (h.1 c).2, h.2⟩) (run_value m ρ)

end Cert.AllToAll

end
-- ==== Proof.Frames.lean ====
/- The frames: every program ends in every execution, with its arguments kept and every semaphore at zero. -/
module

public import proofs.«01_k».proof.Defs
public import proofs.«01_k».proof.Proof.Twin
public import proofs.«01_k».proof.Proof.Gen.ReferenceIdeal.Run
public import proofs.«01_k».proof.Proof.Gen.SiluIdeal.Run
public import Idealize.ShloMosaic.Lib.Quiescent

@[expose] public section

noncomputable section

namespace Cert.AllToAll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel, over the machine floats. -/
theorem frame_kernel : Cert.quiescent_Kernel := fun m ρ _ => run_twin (F := Bits) m ρ

/-- The kernel, over the ideal values. -/
theorem frame_ideal : Cert.quiescent_KernelIdeal := fun m ρ _ =>
  (θ_run Cert.KernelIdeal.defs _ _).mono (fun _ h => ⟨fun c => (h.1 c).2, h.2⟩) (run_value (F := Ideal) m ρ)

/-- The reference: it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Silu without the clip: nor has it. -/
theorem frame_silu : Cert.quiescent_SiluIdeal := fun m ρ _ =>
  (θ_run Cert.SiluIdeal.defs _ _).mono (fun r h => ⟨fun c => (h c).2, Idealize.ShloMosaic.sem_eq_zero_of_no_sems (by decide) r.2⟩)
    (Cert.SiluIdeal.Value.run (F := Ideal) m ρ)

end Cert.AllToAll

end
-- ==== Proof.Scalar.lean ====
/- Silu of one number, over the extended reals: the quotient a reference writes is the product the kernel writes, and
   the clip changes nothing within its bounds. -/
module

public import Idealize.ShloMosaic.PureOps
public import Idealize.ShloMosaic.PureOps.Ideal.Laws
public import Idealize.ShloMosaic.Lib.IdealHost
public import Idealize.ShloMosaic.Lib.ValueIdx

@[expose] public section

noncomputable section

namespace Cert.AllToAll

open Idealize.ShloMosaic
open scoped BigOperators

/-- Silu of one number, as the kernel computes it. -/
def silu (y : EReal) : EReal := y * Ideal.logistic y

/-- The exponential is not negative, -/
theorem exp_nonneg (y : EReal) : 0 ≤ Ideal.exp y := by
  induction y using EReal.rec with
  | bot => exact le_refl _
  | top => exact le_top
  | coe r => exact EReal.coe_nonneg.mpr (Real.exp_pos r).le

/-- so the denominator is not zero, -/
theorem den_ne (y : EReal) : 1 + Ideal.exp (-y) ≠ 0 := by
  have h : (1 : EReal) ≤ 1 + Ideal.exp (-y) := le_add_of_nonneg_right (exp_nonneg _)
  exact ne_of_gt (lt_of_lt_of_le zero_lt_one h)

/-- and the quotient is silu. -/
theorem div_den (y : EReal) : Ideal.div y (1 + Ideal.exp (-y)) = silu y := by
  unfold silu Ideal.logistic Ideal.div
  rw [if_neg (den_ne y), if_neg (den_ne y), one_mul]

/-- The bit patterns of the clip's bounds denote 60 and -60. -/
theorem bits_upper : Ideal.ofBits .f32 0x42700000#32 = ((60 : ℝ) : EReal) := by
  simp [Ideal.ofBits, Ideal.ieee, -EReal.coe_mul]; norm_num
theorem bits_lower : Ideal.ofBits .f32 0xC2700000#32 = -((60 : ℝ) : EReal) := by
  rw [← EReal.coe_neg]
  simp [Ideal.ofBits, Ideal.ieee, -EReal.coe_mul]; norm_num

/-- A number of absolute value at most `b` is not changed by clipping it to `[-b, b]`. -/
theorem clip_id {b y : EReal} (h : max y (-y) ≤ b) : min b (max (-b) y) = y := by
  have h1 : y ≤ b := le_trans (le_max_left _ _) h
  have h2 : -b ≤ y := EReal.neg_le.mp (le_trans (le_max_right _ _) h)
  rw [max_eq_right h2, min_eq_right h1]

end Cert.AllToAll

end
-- ==== Proof.Block.lean ====
/- What one device computes: row `r` of its result is silu of row `64 c + r` of the product of the whole `x` by the
   weights. -/
module

public import proofs.«01_k».proof.Proof.Result
public import proofs.«01_k».proof.Proof.Scalar
public import Idealize.ShloMosaic.Lib.MatmulPlain
public import Idealize.ShloMosaic.Lib.Layout

@[expose] public section

noncomputable section

namespace Cert.AllToAll

open Cert.KernelIdeal Cert.KernelIdeal.Gen Idealize.ShloMosaic Idealize.ShloMosaic.ValueIdx
open scoped BigOperators

variable {F : FTy → Type} [FloatOps F]

/-- Entry `(r, n)` of the product of two square matrices. -/
def prod (X W : Vec Ideal S2048x2048 .f32) (r n : Fin 2048) : EReal := ∑ k : Fin 2048, X (ix2 r k) * W (ix2 k n)

/-- The gathered blocks, laid side by side: column `k` of row `r` is column `k % 64` of row `r` in slot `k / 64`. -/
theorem laid (g : Vec F S32x64x64 .f32) (r : Fin 64) (k : Fin 2048) :
    shapeCast S64x2048 (transpose S64x32x64 [1, 0, 2] g transposes_S32x64x64_p1_0_2_S64x32x64) shapeCasts_S64x32x64_S64x2048 (ix2 r k)
      = g (ix3 (⟨k.val / 64, by have := k.isLt; omega⟩ : Fin 32) r (⟨k.val % 64, by omega⟩ : Fin 64)) := by
  rw [shapeCast_apply _ shapeCasts_S64x32x64_S64x2048 (ix2 r k)
    (ix3 r (⟨k.val / 64, by have := k.isLt; omega⟩ : Fin 32) (⟨k.val % 64, by omega⟩ : Fin 64)) (by
      rw [Shape.rowMajor_val_two, Shape.rowMajor_val_three]
      show (r.val * 32 + k.val / 64) * 64 + k.val % 64 = r.val * 2048 + k.val
      omega)]
  refine transpose_apply _ g transposes_S32x64x64_p1_0_2_S64x32x64 _ _ fun b => ?_
  fin_cases b <;> rfl

/-- The body's function of the gathered blocks and the weights, entry by entry. -/
theorem body_entry (g : Vec Ideal S32x64x64 .f32) (W : Vec Ideal S2048x2048 .f32) (r : Fin 64) (n : Fin 2048) :
    k0_pay1 (F := Ideal) g W (ix2 r n)
      = silu (∑ k : Fin 2048, g (ix3 (⟨k.val / 64, by have := k.isLt; omega⟩ : Fin 32) r (⟨k.val % 64, by omega⟩ : Fin 64)) * W (ix2 k n)) := by
  have hy : matmul (F := Ideal) (φ₁ := .f32) (φ₂ := .f32) dot_S64x2048_S2048x2048_S64x2048_1_0_0_1_n_n none
      (shapeCast S64x2048 (transpose S64x32x64 [1, 0, 2] g transposes_S32x64x64_p1_0_2_S64x32x64) shapeCasts_S64x32x64_S64x2048)
      (shapeCast S2048x2048 W shapeCasts_S2048x2048_S2048x2048) (constant S64x2048 .f32 0x00000000#32) (ix2 r n)
      = ∑ k : Fin 2048, g (ix3 (⟨k.val / 64, by have := k.isLt; omega⟩ : Fin 32) r (⟨k.val % 64, by omega⟩ : Fin 64)) * W (ix2 k n) := by
    refine (Ideal.matmul_plain_apply (M := 64) (K := 2048) (N := 2048) none _ _ _ r n).trans ?_
    rw [constant_apply, Ideal.ofBits_zero_f32, zero_add]
    refine Finset.sum_congr rfl fun k _ => ?_
    rw [laid, shapeCast_self]
  exact congrArg silu hy

/-- When each device holds its block of columns of `X`, what device `c` gathers is rows `64 c` to `64 c + 63` of `X`. -/
theorem rowsOf_block (X : Vec Ideal S2048x2048 .f32) (c : Dev nD) (r : Fin 64) (k : Fin 2048) :
    rowsOf (F := Ideal) (fun d => Layout.block S2048x64 S2048x2048 1 32 d X) c
        (ix3 (⟨k.val / 64, by have := k.isLt; omega⟩ : Fin 32) r (⟨k.val % 64, by omega⟩ : Fin 64))
      = X (ix2 (⟨64 * c.val + r.val, by have := dev_lt c; omega⟩ : Fin 2048) k) := by
  refine congrArg X (funext fun a => Fin.ext ?_)
  match a with
  | ⟨0, _⟩ => rfl
  | ⟨1, _⟩ =>
    show k.val / 64 * 64 + k.val % 64 = k.val
    omega

/-- So device `c`'s result is silu of those rows of the product. -/
theorem device_value (X W : Vec Ideal S2048x2048 .f32) (c : Dev nD) (r : Fin 64) (n : Fin 2048) :
    k0_pay1 (F := Ideal) (rowsOf (fun d => Layout.block S2048x64 S2048x2048 1 32 d X) c) W (ix2 r n)
      = silu (prod X W (⟨64 * c.val + r.val, by have := dev_lt c; omega⟩ : Fin 2048) n) := by
  rw [body_entry]
  refine congrArg silu (Finset.sum_congr rfl fun k _ => ?_)
  rw [rowsOf_block]

/-- That is: device `c`'s result is block `c` of the rows of any array that is silu of the product, entry by entry. -/
theorem device_block (X W V : Vec Ideal S2048x2048 .f32) (c : Dev nD) (i : S64x2048.Idx)
    (hV : ∀ r n : Fin 2048, r.val = 64 * c.val + (i 0).val → n.val = (i 1).val → V (ix2 r n) = silu (prod X W r n)) :
    k0_pay1 (F := Ideal) (rowsOf (fun d => Layout.block S2048x64 S2048x2048 1 32 d X) c) W i
      = (Layout.block S64x2048 S2048x2048 0 32 c V : S64x2048.Idx → _) i := by
  obtain ⟨r, n, rfl⟩ : ∃ (r : Fin 64) (n : Fin 2048), i = ix2 r n := ⟨i 0, i 1, eq_ix2 i⟩
  rw [device_value, ← hV _ n rfl rfl]
  refine congrArg V (funext fun a => Fin.ext ?_)
  match a with
  | ⟨0, _⟩ =>
    show 64 * c.val + r.val = c.val * 64 + r.val
    omega
  | ⟨1, _⟩ => rfl

end Cert.AllToAll

end
-- ==== Proof.Whole.lean ====
/- What the reference and silu without the clip compute, entry by entry, on one device. -/
module

public import proofs.«01_k».proof.Proof.Block
public import proofs.«01_k».proof.Proof.Gen.ReferenceIdeal.Run
public import proofs.«01_k».proof.Proof.Gen.SiluIdeal.Run
public import proofs.«01_k».proof.Proof.Gen.On_within_clip
public import Idealize.ShloMosaic.Lib.StackMember

@[expose] public section

noncomputable section

namespace Cert.AllToAll

open Idealize.ShloMosaic Idealize.ShloMosaic.ValueIdx
open scoped BigOperators

/-- The square shape of the whole arrays, and the shape of a number. -/
abbrev Sq : Shape := ⟨2, ![2048, 2048]⟩
abbrev Pt : Shape := ⟨0, ![]⟩

/-- Silu of the product, as an array. -/
def siluOf (X W : FVec Ideal Sq .f32) : FVec Ideal Sq .f32 := fun i => silu (prod X W (i 0) (i 1))

/-- The product on one device. -/
theorem dot_eq (X W : FVec Ideal Sq .f32) :
    Host.dotGeneral (F := Ideal) (DotDims.plain 2048 2048 2048) none X W = fun i => prod X W (i 0) (i 1) := by
  funext i
  obtain ⟨r, n, rfl⟩ : ∃ r n : Fin 2048, i = ix2 r n := ⟨i 0, i 1, eq_ix2 i⟩
  exact StackMember.dotGeneral_plain_apply none X W r n

/-- The last steps of silu without the clip: `y` over one plus the exponential of `-z` is silu of `y` where `z` is `y`. -/
theorem quotient_entry (y z : FVec Ideal Sq .f32) (hb : Pt.BroadcastsInDim Sq (![] : Fin 0 → Fin Sq.rank)) (i : Sq.Idx) (h : z i = y i) :
    Host.divf y (addf (broadcastInDim Sq ![] hb (constant (F := Ideal) Pt .f32 0x3F800000#32)) (Host.exp (Host.negf z))) i = silu (y i) := by
  show Ideal.div (y i) (Ideal.ofBits .f32 0x3F800000#32 + Ideal.exp (-(z i))) = _
  rw [Ideal.ofBits_one_f32, h, div_den]

/-- Silu without the clip computes silu of the product. -/
theorem silu_value (X W : FVec Ideal Sq .f32) (hb : Pt.BroadcastsInDim Sq (![] : Fin 0 → Fin Sq.rank)) :
    Host.divf (Host.dotGeneral (DotDims.plain 2048 2048 2048) none X W)
      (addf (broadcastInDim Sq ![] hb (constant (F := Ideal) Pt .f32 0x3F800000#32))
        (Host.exp (Host.negf (Host.dotGeneral (DotDims.plain 2048 2048 2048) none X W)))) = siluOf X W := by
  funext i
  rw [quotient_entry _ _ hb i rfl, dot_eq]
  rfl

/-- The clip, entry by entry: where the absolute value is at most 60 it changes nothing. -/
theorem clip_entry (y : FVec Ideal Sq .f32) (hb : Pt.BroadcastsInDim Sq (![] : Fin 0 → Fin Sq.rank)) (i : Sq.Idx)
    (h : cmpf .ole (Host.absf y) (broadcastInDim Sq ![] hb (constant (F := Ideal) Pt .f32 0x42700000#32)) i = 1#1) :
    minimumf (broadcastInDim Sq ![] hb (id (constant (F := Ideal) Pt .f32 0x42700000#32)))
      (maximumf (broadcastInDim Sq ![] hb (id (constant (F := Ideal) Pt .f32 0xC2700000#32))) y) i = y i := by
  have h1 : Ideal.cmp .ole (max (y i) (-(y i))) (Ideal.ofBits .f32 0x42700000#32) = 1#1 := h
  have h2 : max (y i) (-(y i)) ≤ Ideal.ofBits .f32 0x42700000#32 := by
    unfold Ideal.cmp at h1
    by_contra hn
    simp [hn] at h1
  show min (Ideal.ofBits .f32 0x42700000#32) (max (Ideal.ofBits .f32 0xC2700000#32) (y i)) = y i
  rw [bits_upper] at h2 ⊢
  rw [bits_lower]
  exact clip_id h2

/-- The reference computes silu of the product wherever the product is of absolute value at most 60. -/
theorem reference_value (X W : FVec Ideal Sq .f32) (hb : Pt.BroadcastsInDim Sq (![] : Fin 0 → Fin Sq.rank)) (i : Sq.Idx)
    (h : Cert.On_within_clip.fn (F := Ideal) X W i = 1#1) :
    Host.divf (Host.dotGeneral (DotDims.plain 2048 2048 2048) none X W)
      (addf (broadcastInDim Sq ![] hb (constant (F := Ideal) Pt .f32 0x3F800000#32))
        (Host.exp (Host.negf
          (minimumf (broadcastInDim Sq ![] hb (id (constant (F := Ideal) Pt .f32 0x42700000#32)))
            (maximumf (broadcastInDim Sq ![] hb (id (constant (F := Ideal) Pt .f32 0xC2700000#32)))
              (Host.dotGeneral (DotDims.plain 2048 2048 2048) none X W)))))) i = siluOf X W i := by
  rw [quotient_entry _ _ hb i (clip_entry (Host.dotGeneral (DotDims.plain 2048 2048 2048) none X W) hb i h), dot_eq]
  rfl

end Cert.AllToAll

end
-- ==== Proof.Equal.lean ====
/- The kernel computes what the reference computes, and what silu without the clip computes. -/
module

public import proofs.«01_k».proof.Defs
public import proofs.«01_k».proof.Proof.Whole

@[expose] public section

noncomputable section

namespace Cert.AllToAll

open Idealize.ShloMosaic Idealize.ShloMosaic.ValueIdx Idealize.SL.Sem Cert.KernelIdeal Cert.KernelIdeal.Gen
open scoped BigOperators

/-- When each device holds its block of columns of `X` and all of `W`, the results of the devices are the blocks of rows of
    silu of the product. -/
theorem device_result (X W : FVec Ideal Sq .f32) (m : (ℓ : Loc nD τ sig) → Buf (Elt Ideal) ℓ) (c : Dev nD)
    (hx : ∀ d : Dev nD, m ((d.tc : Thread nD τ).loc main_arg0) = Layout.block ⟨2, ![2048, 64]⟩ ⟨2, ![2048, 2048]⟩ 1 32 d X)
    (hw : m ((c.tc : Thread nD τ).loc main_arg1) = W) :
    k0_pay1 (F := Ideal) (rowsOf (fun d => m ((d.tc : Thread nD τ).loc main_arg0)) c) (m ((c.tc : Thread nD τ).loc main_arg1))
      = Layout.block ⟨2, ![64, 2048]⟩ ⟨2, ![2048, 2048]⟩ 0 32 c (siluOf X W) := by
  rw [hw, funext hx]
  funext i
  refine device_block X W (siluOf X W) c i fun r n _ _ => rfl

/-- Against silu without the clip: the results are equal. -/
theorem equal_silu : Cert.algebraic_KernelIdeal_SiluIdeal := by
  intro m g m' g' _ hagree
  refine ⟨siluOf (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1)), ?_, ?_⟩
  · exact (θ_run Cert.KernelIdeal.defs _ _).mono
      (fun r h c => ⟨(h.1 c).1.trans (device_result _ _ m c (fun d => (hagree d).1) (hagree c).2), (h.1 c).2⟩)
      (run_value (F := Ideal) m g)
  · exact (θ_run Cert.SiluIdeal.defs _ _).mono
      (fun r h => ⟨(h 0).1.trans (silu_value _ _ _), (h 0).2⟩)
      (Cert.SiluIdeal.Value.run (F := Ideal) m' g')

/-- Against the reference: the results are equal wherever the product is within the clip. -/
theorem equal_reference : Cert.algebraic_KernelIdeal_ReferenceIdeal_on_within_clip := by
  intro m g m' g' _ hagree
  refine ⟨siluOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun r h c => ⟨fun i _ => congrFun ((h.1 c).1.trans (device_result _ _ m c (fun d => (hagree d).1) (hagree c).2)) i, (h.1 c).2⟩)
      (run_value (F := Ideal) m g)
  · exact (θ_run Cert.ReferenceIdeal.defs _ _).mono
      (fun r h => ⟨fun i hi => (congrFun (h 0).1 i).trans (reference_value _ _ _ i hi), (h 0).2⟩)
      (Cert.ReferenceIdeal.Value.run (F := Ideal) m' g')

end Cert.AllToAll

end
-- ==== Proof.lean ====
/- The proof of the certificate: the frames of the kernel (over the machine floats and over the ideal values), of the
   reference and of silu without the clip; that the ideal kernel is the kernel with no operation rewritten; and that
   the ideal kernel computes the reference's result wherever the product is within the clip, and silu of the product
   everywhere.

   The modules, in the order they build on each other:
     Cells     the semaphores, the slots of the gather buffer, what each device gathers
     Schedule  how the copies' schedule cuts the buffers, and the protocol's records
     Steps     one step of each loop: signal, wait, send, receive
     Regroup   the loops' resources gathered and dealt
     Run       the run of the body from its first instruction to its last
     Trace     the body as the program prints it
     Body      the body as the launch uses it
     Deal      what the launch deals to each device
     Launch    every execution of the program
     Result    what the arrays hold at the end
     Twin      the two printed texts of the kernel are one program
     Frames    the frames
     Scalar    silu of one number
     Block     what one device computes
     Whole     what the reference and silu without the clip compute
     Equal     the equations -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.SiluIdeal
public import proofs.«01_k».proof.Proof.Gen.ReferenceIdeal.Run
public import proofs.«01_k».proof.Proof.Gen.SiluIdeal.Run
public import proofs.«01_k».proof.Proof.Gen.On_within_clip
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Equal

@[expose] public section

noncomputable section

namespace Cert.Proof

open Cert.AllToAll

/-- The certificate's claim: the four frames, the idealization, and the two equations. -/
theorem claim : Cert.Claim :=
  ⟨Cert.Kernel.Gen.facts, Cert.KernelIdeal.Gen.facts, Cert.ReferenceIdeal.Gen.facts, Cert.SiluIdeal.Gen.facts, Cert.On_within_clip.Gen.facts,
    frame_kernel, frame_ideal, frame_reference, frame_silu, trivial, equal_reference, equal_silu⟩

end Cert.Proof

end
